-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x16x3 : Shape := ⟨3, ![1000000, 16, 3]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x16x3 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x16x3 : Shape := ⟨3, ![1000000, 16, 3]⟩
abbrev S3x16x1000000 : Shape := ⟨3, ![3, 16, 1000000]⟩
abbrev S48x1000000 : Shape := ⟨2, ![48, 1000000]⟩
abbrev S_ : Shape := ⟨0, ![]⟩
abbrev S48x1000064 : Shape := ⟨2, ![48, 1000064]⟩
abbrev S48x16384 : Shape := ⟨2, ![48, 16384]⟩
abbrev S512 : Shape := ⟨1, ![512]⟩
abbrev S16x48x128 : Shape := ⟨3, ![16, 48, 128]⟩
abbrev S48x512 : Shape := ⟨2, ![48, 512]⟩
abbrev S16 : Shape := ⟨1, ![16]⟩
abbrev S1 : Shape := ⟨1, ![1]⟩
abbrev S1x48x128 : Shape := ⟨3, ![1, 48, 128]⟩
abbrev S48x128 : Shape := ⟨2, ![48, 128]⟩
abbrev S8x48x128 : Shape := ⟨3, ![8, 48, 128]⟩
abbrev S48x1024 : Shape := ⟨2, ![48, 1024]⟩
abbrev S3x16x16384 : Shape := ⟨3, ![3, 16, 16384]⟩
abbrev S16384x16x3 : Shape := ⟨3, ![16384, 16, 3]⟩

abbrev nBuf : Table → Nat
  | .hbm => 9
  | .local .scVector .vmem => 3
  | _ => 0

abbrev bufTy : (tb : Table) → Fin (nBuf tb) → BufTy
  | .hbm, ⟨0, _⟩ => ⟨S16384, .i32⟩
  | .hbm, ⟨1, _⟩ => ⟨S1000000x16x3, .f32⟩
  | .hbm, ⟨2, _⟩ => ⟨S3x16x1000000, .f32⟩
  | .hbm, ⟨3, _⟩ => ⟨S48x1000000, .f32⟩
  | .hbm, ⟨4, _⟩ => ⟨S_, .f32⟩
  | .hbm, ⟨5, _⟩ => ⟨S48x1000064, .f32⟩
  | .hbm, ⟨6, _⟩ => ⟨S48x16384, .f32⟩
  | .hbm, ⟨7, _⟩ => ⟨S3x16x16384, .f32⟩
  | .hbm, ⟨8, _⟩ => ⟨S16384x16x3, .f32⟩
  | .local .scVector .vmem, ⟨0, _⟩ => ⟨S512, .i32⟩
  | .local .scVector .vmem, ⟨1, _⟩ => ⟨S16x48x128, .f32⟩
  | .local .scVector .vmem, ⟨2, _⟩ => ⟨S48x512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_mult1 (v6 : BitVec 32) : BitVec 32 :=
  let c7_i32 : BitVec 32 := 7#32
  let v7 : BitVec 32 := Scalar.shrsi v6 c7_i32
  let c128_i32 : BitVec 32 := 128#32
  let v8 : BitVec 32 := Scalar.muli v7 c128_i32
  v8

def k0_off2 (v6 : BitVec 32) : Fin 2 → Nat :=
  let c0_i32_2 : BitVec 32 := 0#32
  let c7_i32 : BitVec 32 := 7#32
  let v7 : BitVec 32 := Scalar.shrsi v6 c7_i32
  let c128_i32 : BitVec 32 := 128#32
  let v8 : BitVec 32 := Scalar.muli v7 c128_i32
  let v9 : BitVec 32 := v8
  ![0, v9.toNat]

def k0_chk1 (v6 : BitVec 32) : Prop :=
  (128 ∣ (k0_mult1 v6).toNat) ∧
  (∀ a, (k0_off2 v6) a + S48x128.size a ≤ S48x1000064.size a)
theorem k0_mult1_dvd : ∀ (v6 : BitVec 32) (k0_hw1 : k0_chk1 v6), 128 ∣ (k0_mult1 v6).toNat := fun v6 k0_hw1 => k0_hw1.1
theorem k0_off2_inb : ∀ (v6 : BitVec 32) (k0_hw1 : k0_chk1 v6), ∀ a, (k0_off2 v6) a + S48x128.size a ≤ S48x1000064.size a := fun v6 k0_hw1 => k0_hw1.2

def k0_mult2 (v17 : BitVec 32) : BitVec 32 :=
  let c7_i32_6 : BitVec 32 := 7#32
  let v18 : BitVec 32 := Scalar.shrsi v17 c7_i32_6
  let c128_i32_7 : BitVec 32 := 128#32
  let v19 : BitVec 32 := Scalar.muli v18 c128_i32_7
  v19

def k0_off3 (v17 : BitVec 32) : Fin 2 → Nat :=
  let c0_i32_10 : BitVec 32 := 0#32
  let c7_i32_6 : BitVec 32 := 7#32
  let v18 : BitVec 32 := Scalar.shrsi v17 c7_i32_6
  let c128_i32_7 : BitVec 32 := 128#32
  let v19 : BitVec 32 := Scalar.muli v18 c128_i32_7
  let v20 : BitVec 32 := v19
  ![0, v20.toNat]

def k0_chk2 (v17 : BitVec 32) : Prop :=
  (128 ∣ (k0_mult2 v17).toNat) ∧
  (∀ a, (k0_off3 v17) a + S48x128.size a ≤ S48x1000064.size a)
theorem k0_mult2_dvd : ∀ (v17 : BitVec 32) (k0_hw2 : k0_chk2 v17), 128 ∣ (k0_mult2 v17).toNat := fun v17 k0_hw2 => k0_hw2.1
theorem k0_off3_inb : ∀ (v17 : BitVec 32) (k0_hw2 : k0_chk2 v17), ∀ a, (k0_off3 v17) a + S48x128.size a ≤ S48x1000064.size a := fun v17 k0_hw2 => k0_hw2.2

def k0_mult3 (v28 : BitVec 32) : BitVec 32 :=
  let c7_i32_14 : BitVec 32 := 7#32
  let v29 : BitVec 32 := Scalar.shrsi v28 c7_i32_14
  let c128_i32_15 : BitVec 32 := 128#32
  let v30 : BitVec 32 := Scalar.muli v29 c128_i32_15
  v30

def k0_off4 (v28 : BitVec 32) : Fin 2 → Nat :=
  let c0_i32_19 : BitVec 32 := 0#32
  let c7_i32_14 : BitVec 32 := 7#32
  let v29 : BitVec 32 := Scalar.shrsi v28 c7_i32_14
  let c128_i32_15 : BitVec 32 := 128#32
  let v30 : BitVec 32 := Scalar.muli v29 c128_i32_15
  let v31 : BitVec 32 := v30
  ![0, v31.toNat]

def k0_chk3 (v28 : BitVec 32) : Prop :=
  (128 ∣ (k0_mult3 v28).toNat) ∧
  (∀ a, (k0_off4 v28) a + S48x128.size a ≤ S48x1000064.size a)
theorem k0_mult3_dvd : ∀ (v28 : BitVec 32) (k0_hw3 : k0_chk3 v28), 128 ∣ (k0_mult3 v28).toNat := fun v28 k0_hw3 => k0_hw3.1
theorem k0_off4_inb : ∀ (v28 : BitVec 32) (k0_hw3 : k0_chk3 v28), ∀ a, (k0_off4 v28) a + S48x128.size a ≤ S48x1000064.size a := fun v28 k0_hw3 => k0_hw3.2

def k0_mult4 (v39 : BitVec 32) : BitVec 32 :=
  let c7_i32_23 : BitVec 32 := 7#32
  let v40 : BitVec 32 := Scalar.shrsi v39 c7_i32_23
  let c128_i32_24 : BitVec 32 := 128#32
  let v41 : BitVec 32 := Scalar.muli v40 c128_i32_24
  v41

def k0_off5 (v39 : BitVec 32) : Fin 2 → Nat :=
  let c0_i32_27 : BitVec 32 := 0#32
  let c7_i32_23 : BitVec 32 := 7#32
  let v40 : BitVec 32 := Scalar.shrsi v39 c7_i32_23
  let c128_i32_24 : BitVec 32 := 128#32
  let v41 : BitVec 32 := Scalar.muli v40 c128_i32_24
  let v42 : BitVec 32 := v41
  ![0, v42.toNat]

def k0_chk4 (v39 : BitVec 32) : Prop :=
  (128 ∣ (k0_mult4 v39).toNat) ∧
  (∀ a, (k0_off5 v39) a + S48x128.size a ≤ S48x1000064.size a)
theorem k0_mult4_dvd : ∀ (v39 : BitVec 32) (k0_hw4 : k0_chk4 v39), 128 ∣ (k0_mult4 v39).toNat := fun v39 k0_hw4 => k0_hw4.1
theorem k0_off5_inb : ∀ (v39 : BitVec 32) (k0_hw4 : k0_chk4 v39), ∀ a, (k0_off5 v39) a + S48x128.size a ≤ S48x1000064.size a := fun v39 k0_hw4 => k0_hw4.2

def k0_mult5 (v50 : BitVec 32) : BitVec 32 :=
  let c7_i32_31 : BitVec 32 := 7#32
  let v51 : BitVec 32 := Scalar.shrsi v50 c7_i32_31
  let c128_i32_32 : BitVec 32 := 128#32
  let v52 : BitVec 32 := Scalar.muli v51 c128_i32_32
  v52

def k0_off6 (v50 : BitVec 32) : Fin 2 → Nat :=
  let c0_i32_35 : BitVec 32 := 0#32
  let c7_i32_31 : BitVec 32 := 7#32
  let v51 : BitVec 32 := Scalar.shrsi v50 c7_i32_31
  let c128_i32_32 : BitVec 32 := 128#32
  let v52 : BitVec 32 := Scalar.muli v51 c128_i32_32
  let v53 : BitVec 32 := v52
  ![0, v53.toNat]

def k0_chk5 (v50 : BitVec 32) : Prop :=
  (128 ∣ (k0_mult5 v50).toNat) ∧
  (∀ a, (k0_off6 v50) a + S48x128.size a ≤ S48x1000064.size a)
theorem k0_mult5_dvd : ∀ (v50 : BitVec 32) (k0_hw5 : k0_chk5 v50), 128 ∣ (k0_mult5 v50).toNat := fun v50 k0_hw5 => k0_hw5.1
theorem k0_off6_inb : ∀ (v50 : BitVec 32) (k0_hw5 : k0_chk5 v50), ∀ a, (k0_off6 v50) a + S48x128.size a ≤ S48x1000064.size a := fun v50 k0_hw5 => k0_hw5.2

def k0_mult6 (v61 : BitVec 32) : BitVec 32 :=
  let c7_i32_39 : BitVec 32 := 7#32
  let v62 : BitVec 32 := Scalar.shrsi v61 c7_i32_39
  let c128_i32_40 : BitVec 32 := 128#32
  let v63 : BitVec 32 := Scalar.muli v62 c128_i32_40
  v63

def k0_off7 (v61 : BitVec 32) : Fin 2 → Nat :=
  let c0_i32_43 : BitVec 32 := 0#32
  let c7_i32_39 : BitVec 32 := 7#32
  let v62 : BitVec 32 := Scalar.shrsi v61 c7_i32_39
  let c128_i32_40 : BitVec 32 := 128#32
  let v63 : BitVec 32 := Scalar.muli v62 c128_i32_40
  let v64 : BitVec 32 := v63
  ![0, v64.toNat]

def k0_chk6 (v61 : BitVec 32) : Prop :=
  (128 ∣ (k0_mult6 v61).toNat) ∧
  (∀ a, (k0_off7 v61) a + S48x128.size a ≤ S48x1000064.size a)
theorem k0_mult6_dvd : ∀ (v61 : BitVec 32) (k0_hw6 : k0_chk6 v61), 128 ∣ (k0_mult6 v61).toNat := fun v61 k0_hw6 => k0_hw6.1
theorem k0_off7_inb : ∀ (v61 : BitVec 32) (k0_hw6 : k0_chk6 v61), ∀ a, (k0_off7 v61) a + S48x128.size a ≤ S48x1000064.size a := fun v61 k0_hw6 => k0_hw6.2

def k0_mult7 (v72 : BitVec 32) : BitVec 32 :=
  let c7_i32_47 : BitVec 32 := 7#32
  let v73 : BitVec 32 := Scalar.shrsi v72 c7_i32_47
  let c128_i32_48 : BitVec 32 := 128#32
  let v74 : BitVec 32 := Scalar.muli v73 c128_i32_48
  v74

def k0_off8 (v72 : BitVec 32) : Fin 2 → Nat :=
  let c0_i32_51 : BitVec 32 := 0#32
  let c7_i32_47 : BitVec 32 := 7#32
  let v73 : BitVec 32 := Scalar.shrsi v72 c7_i32_47
  let c128_i32_48 : BitVec 32 := 128#32
  let v74 : BitVec 32 := Scalar.muli v73 c128_i32_48
  let v75 : BitVec 32 := v74
  ![0, v75.toNat]

def k0_chk7 (v72 : BitVec 32) : Prop :=
  (128 ∣ (k0_mult7 v72).toNat) ∧
  (∀ a, (k0_off8 v72) a + S48x128.size a ≤ S48x1000064.size a)
theorem k0_mult7_dvd : ∀ (v72 : BitVec 32) (k0_hw7 : k0_chk7 v72), 128 ∣ (k0_mult7 v72).toNat := fun v72 k0_hw7 => k0_hw7.1
theorem k0_off8_inb : ∀ (v72 : BitVec 32) (k0_hw7 : k0_chk7 v72), ∀ a, (k0_off8 v72) a + S48x128.size a ≤ S48x1000064.size a := fun v72 k0_hw7 => k0_hw7.2

def k0_mult8 (v83 : BitVec 32) : BitVec 32 :=
  let c7_i32_55 : BitVec 32 := 7#32
  let v84 : BitVec 32 := Scalar.shrsi v83 c7_i32_55
  let c128_i32_56 : BitVec 32 := 128#32
  let v85 : BitVec 32 := Scalar.muli v84 c128_i32_56
  v85

def k0_off9 (v83 : BitVec 32) : Fin 2 → Nat :=
  let c0_i32_60 : BitVec 32 := 0#32
  let c7_i32_55 : BitVec 32 := 7#32
  let v84 : BitVec 32 := Scalar.shrsi v83 c7_i32_55
  let c128_i32_56 : BitVec 32 := 128#32
  let v85 : BitVec 32 := Scalar.muli v84 c128_i32_56
  let v86 : BitVec 32 := v85
  ![0, v86.toNat]

def k0_chk8 (v83 : BitVec 32) : Prop :=
  (128 ∣ (k0_mult8 v83).toNat) ∧
  (∀ a, (k0_off9 v83) a + S48x128.size a ≤ S48x1000064.size a)
theorem k0_mult8_dvd : ∀ (v83 : BitVec 32) (k0_hw8 : k0_chk8 v83), 128 ∣ (k0_mult8 v83).toNat := fun v83 k0_hw8 => k0_hw8.1
theorem k0_off9_inb : ∀ (v83 : BitVec 32) (k0_hw8 : k0_chk8 v83), ∀ a, (k0_off9 v83) a + S48x128.size a ≤ S48x1000064.size a := fun v83 k0_hw8 => k0_hw8.2

def k0_mult9 (v94 : BitVec 32) : BitVec 32 :=
  let c7_i32_64 : BitVec 32 := 7#32
  let v95 : BitVec 32 := Scalar.shrsi v94 c7_i32_64
  let c128_i32_65 : BitVec 32 := 128#32
  let v96 : BitVec 32 := Scalar.muli v95 c128_i32_65
  v96

def k0_off10 (v94 : BitVec 32) : Fin 2 → Nat :=
  let c0_i32_68 : BitVec 32 := 0#32
  let c7_i32_64 : BitVec 32 := 7#32
  let v95 : BitVec 32 := Scalar.shrsi v94 c7_i32_64
  let c128_i32_65 : BitVec 32 := 128#32
  let v96 : BitVec 32 := Scalar.muli v95 c128_i32_65
  let v97 : BitVec 32 := v96
  ![0, v97.toNat]

def k0_chk9 (v94 : BitVec 32) : Prop :=
  (128 ∣ (k0_mult9 v94).toNat) ∧
  (∀ a, (k0_off10 v94) a + S48x128.size a ≤ S48x1000064.size a)
theorem k0_mult9_dvd : ∀ (v94 : BitVec 32) (k0_hw9 : k0_chk9 v94), 128 ∣ (k0_mult9 v94).toNat := fun v94 k0_hw9 => k0_hw9.1
theorem k0_off10_inb : ∀ (v94 : BitVec 32) (k0_hw9 : k0_chk9 v94), ∀ a, (k0_off10 v94) a + S48x128.size a ≤ S48x1000064.size a := fun v94 k0_hw9 => k0_hw9.2

def k0_mult10 (v105 : BitVec 32) : BitVec 32 :=
  let c7_i32_72 : BitVec 32 := 7#32
  let v106 : BitVec 32 := Scalar.shrsi v105 c7_i32_72
  let c128_i32_73 : BitVec 32 := 128#32
  let v107 : BitVec 32 := Scalar.muli v106 c128_i32_73
  v107

def k0_off11 (v105 : BitVec 32) : Fin 2 → Nat :=
  let c0_i32_76 : BitVec 32 := 0#32
  let c7_i32_72 : BitVec 32 := 7#32
  let v106 : BitVec 32 := Scalar.shrsi v105 c7_i32_72
  let c128_i32_73 : BitVec 32 := 128#32
  let v107 : BitVec 32 := Scalar.muli v106 c128_i32_73
  let v108 : BitVec 32 := v107
  ![0, v108.toNat]

def k0_chk10 (v105 : BitVec 32) : Prop :=
  (128 ∣ (k0_mult10 v105).toNat) ∧
  (∀ a, (k0_off11 v105) a + S48x128.size a ≤ S48x1000064.size a)
theorem k0_mult10_dvd : ∀ (v105 : BitVec 32) (k0_hw10 : k0_chk10 v105), 128 ∣ (k0_mult10 v105).toNat := fun v105 k0_hw10 => k0_hw10.1
theorem k0_off11_inb : ∀ (v105 : BitVec 32) (k0_hw10 : k0_chk10 v105), ∀ a, (k0_off11 v105) a + S48x128.size a ≤ S48x1000064.size a := fun v105 k0_hw10 => k0_hw10.2

def k0_mult11 (v116 : BitVec 32) : BitVec 32 :=
  let c7_i32_80 : BitVec 32 := 7#32
  let v117 : BitVec 32 := Scalar.shrsi v116 c7_i32_80
  let c128_i32_81 : BitVec 32 := 128#32
  let v118 : BitVec 32 := Scalar.muli v117 c128_i32_81
  v118

def k0_off12 (v116 : BitVec 32) : Fin 2 → Nat :=
  let c0_i32_84 : BitVec 32 := 0#32
  let c7_i32_80 : BitVec 32 := 7#32
  let v117 : BitVec 32 := Scalar.shrsi v116 c7_i32_80
  let c128_i32_81 : BitVec 32 := 128#32
  let v118 : BitVec 32 := Scalar.muli v117 c128_i32_81
  let v119 : BitVec 32 := v118
  ![0, v119.toNat]

def k0_chk11 (v116 : BitVec 32) : Prop :=
  (128 ∣ (k0_mult11 v116).toNat) ∧
  (∀ a, (k0_off12 v116) a + S48x128.size a ≤ S48x1000064.size a)
theorem k0_mult11_dvd : ∀ (v116 : BitVec 32) (k0_hw11 : k0_chk11 v116), 128 ∣ (k0_mult11 v116).toNat := fun v116 k0_hw11 => k0_hw11.1
theorem k0_off12_inb : ∀ (v116 : BitVec 32) (k0_hw11 : k0_chk11 v116), ∀ a, (k0_off12 v116) a + S48x128.size a ≤ S48x1000064.size a := fun v116 k0_hw11 => k0_hw11.2

def k0_mult12 (v127 : BitVec 32) : BitVec 32 :=
  let c7_i32_88 : BitVec 32 := 7#32
  let v128 : BitVec 32 := Scalar.shrsi v127 c7_i32_88
  let c128_i32_89 : BitVec 32 := 128#32
  let v129 : BitVec 32 := Scalar.muli v128 c128_i32_89
  v129

def k0_off13 (v127 : BitVec 32) : Fin 2 → Nat :=
  let c0_i32_92 : BitVec 32 := 0#32
  let c7_i32_88 : BitVec 32 := 7#32
  let v128 : BitVec 32 := Scalar.shrsi v127 c7_i32_88
  let c128_i32_89 : BitVec 32 := 128#32
  let v129 : BitVec 32 := Scalar.muli v128 c128_i32_89
  let v130 : BitVec 32 := v129
  ![0, v130.toNat]

def k0_chk12 (v127 : BitVec 32) : Prop :=
  (128 ∣ (k0_mult12 v127).toNat) ∧
  (∀ a, (k0_off13 v127) a + S48x128.size a ≤ S48x1000064.size a)
theorem k0_mult12_dvd : ∀ (v127 : BitVec 32) (k0_hw12 : k0_chk12 v127), 128 ∣ (k0_mult12 v127).toNat := fun v127 k0_hw12 => k0_hw12.1
theorem k0_off13_inb : ∀ (v127 : BitVec 32) (k0_hw12 : k0_chk12 v127), ∀ a, (k0_off13 v127) a + S48x128.size a ≤ S48x1000064.size a := fun v127 k0_hw12 => k0_hw12.2

def k0_mult13 (v138 : BitVec 32) : BitVec 32 :=
  let c7_i32_96 : BitVec 32 := 7#32
  let v139 : BitVec 32 := Scalar.shrsi v138 c7_i32_96
  let c128_i32_97 : BitVec 32 := 128#32
  let v140 : BitVec 32 := Scalar.muli v139 c128_i32_97
  v140

def k0_off14 (v138 : BitVec 32) : Fin 2 → Nat :=
  let c0_i32_100 : BitVec 32 := 0#32
  let c7_i32_96 : BitVec 32 := 7#32
  let v139 : BitVec 32 := Scalar.shrsi v138 c7_i32_96
  let c128_i32_97 : BitVec 32 := 128#32
  let v140 : BitVec 32 := Scalar.muli v139 c128_i32_97
  let v141 : BitVec 32 := v140
  ![0, v141.toNat]

def k0_chk13 (v138 : BitVec 32) : Prop :=
  (128 ∣ (k0_mult13 v138).toNat) ∧
  (∀ a, (k0_off14 v138) a + S48x128.size a ≤ S48x1000064.size a)
theorem k0_mult13_dvd : ∀ (v138 : BitVec 32) (k0_hw13 : k0_chk13 v138), 128 ∣ (k0_mult13 v138).toNat := fun v138 k0_hw13 => k0_hw13.1
theorem k0_off14_inb : ∀ (v138 : BitVec 32) (k0_hw13 : k0_chk13 v138), ∀ a, (k0_off14 v138) a + S48x128.size a ≤ S48x1000064.size a := fun v138 k0_hw13 => k0_hw13.2

def k0_mult14 (v149 : BitVec 32) : BitVec 32 :=
  let c7_i32_104 : BitVec 32 := 7#32
  let v150 : BitVec 32 := Scalar.shrsi v149 c7_i32_104
  let c128_i32_105 : BitVec 32 := 128#32
  let v151 : BitVec 32 := Scalar.muli v150 c128_i32_105
  v151

def k0_off15 (v149 : BitVec 32) : Fin 2 → Nat :=
  let c0_i32_108 : BitVec 32 := 0#32
  let c7_i32_104 : BitVec 32 := 7#32
  let v150 : BitVec 32 := Scalar.shrsi v149 c7_i32_104
  let c128_i32_105 : BitVec 32 := 128#32
  let v151 : BitVec 32 := Scalar.muli v150 c128_i32_105
  let v152 : BitVec 32 := v151
  ![0, v152.toNat]

def k0_chk14 (v149 : BitVec 32) : Prop :=
  (128 ∣ (k0_mult14 v149).toNat) ∧
  (∀ a, (k0_off15 v149) a + S48x128.size a ≤ S48x1000064.size a)
theorem k0_mult14_dvd : ∀ (v149 : BitVec 32) (k0_hw14 : k0_chk14 v149), 128 ∣ (k0_mult14 v149).toNat := fun v149 k0_hw14 => k0_hw14.1
theorem k0_off15_inb : ∀ (v149 : BitVec 32) (k0_hw14 : k0_chk14 v149), ∀ a, (k0_off15 v149) a + S48x128.size a ≤ S48x1000064.size a := fun v149 k0_hw14 => k0_hw14.2

def k0_mult15 (v160 : BitVec 32) : BitVec 32 :=
  let c7_i32_112 : BitVec 32 := 7#32
  let v161 : BitVec 32 := Scalar.shrsi v160 c7_i32_112
  let c128_i32_113 : BitVec 32 := 128#32
  let v162 : BitVec 32 := Scalar.muli v161 c128_i32_113
  v162

def k0_off16 (v160 : BitVec 32) : Fin 2 → Nat :=
  let c0_i32_116 : BitVec 32 := 0#32
  let c7_i32_112 : BitVec 32 := 7#32
  let v161 : BitVec 32 := Scalar.shrsi v160 c7_i32_112
  let c128_i32_113 : BitVec 32 := 128#32
  let v162 : BitVec 32 := Scalar.muli v161 c128_i32_113
  let v163 : BitVec 32 := v162
  ![0, v163.toNat]

def k0_chk15 (v160 : BitVec 32) : Prop :=
  (128 ∣ (k0_mult15 v160).toNat) ∧
  (∀ a, (k0_off16 v160) a + S48x128.size a ≤ S48x1000064.size a)
theorem k0_mult15_dvd : ∀ (v160 : BitVec 32) (k0_hw15 : k0_chk15 v160), 128 ∣ (k0_mult15 v160).toNat := fun v160 k0_hw15 => k0_hw15.1
theorem k0_off16_inb : ∀ (v160 : BitVec 32) (k0_hw15 : k0_chk15 v160), ∀ a, (k0_off16 v160) a + S48x128.size a ≤ S48x1000064.size a := fun v160 k0_hw15 => k0_hw15.2

def k0_mult16 (v171 : BitVec 32) : BitVec 32 :=
  let c7_i32_120 : BitVec 32 := 7#32
  let v172 : BitVec 32 := Scalar.shrsi v171 c7_i32_120
  let c128_i32_121 : BitVec 32 := 128#32
  let v173 : BitVec 32 := Scalar.muli v172 c128_i32_121
  v173

def k0_off17 (v171 : BitVec 32) : Fin 2 → Nat :=
  let c0_i32_124 : BitVec 32 := 0#32
  let c7_i32_120 : BitVec 32 := 7#32
  let v172 : BitVec 32 := Scalar.shrsi v171 c7_i32_120
  let c128_i32_121 : BitVec 32 := 128#32
  let v173 : BitVec 32 := Scalar.muli v172 c128_i32_121
  let v174 : BitVec 32 := v173
  ![0, v174.toNat]

def k0_chk16 (v171 : BitVec 32) : Prop :=
  (128 ∣ (k0_mult16 v171).toNat) ∧
  (∀ a, (k0_off17 v171) a + S48x128.size a ≤ S48x1000064.size a)
theorem k0_mult16_dvd : ∀ (v171 : BitVec 32) (k0_hw16 : k0_chk16 v171), 128 ∣ (k0_mult16 v171).toNat := fun v171 k0_hw16 => k0_hw16.1
theorem k0_off17_inb : ∀ (v171 : BitVec 32) (k0_hw16 : k0_chk16 v171), ∀ a, (k0_off17 v171) a + S48x128.size a ≤ S48x1000064.size a := fun v171 k0_hw16 => k0_hw16.2

@[reducible] def k0_t1_loop : Scf.Loop 32 :=
  let c0_i32_128 : BitVec 32 := 0#32
  let c32_i32 : BitVec 32 := 32#32
  let v181 : BitVec 32 := Scalar.addi c0_i32_128 c32_i32
  let c1_i32_129 : BitVec 32 := 1#32
  ⟨c0_i32_128, v181, c1_i32_129⟩
def k0_off18 (k0_t1 : Fin k0_t1_loop.trips) : Fin 1 → Nat :=
  let c0_i32_128 : BitVec 32 := 0#32
  let c1_i32_129 : BitVec 32 := 1#32
  let arg11 : BitVec 32 := Scf.iv c0_i32_128 c1_i32_129 k0_t1
  let c16_i32 : BitVec 32 := 16#32
  let v186 : BitVec 32 := Scalar.muli arg11 c16_i32
  let v187 : Index := Scalar.indexCast v186
  ![v187.toNat]

def k0_chk17 (v198 : IVec S16 32) (v201 : IVec S16 32) (v202 : IVec S16 32) (v204 : IVec S16 32) : Prop :=
  (∀ a x, ((![v198, v204, v201] : Fin 3 → IVec S16 32) a x).toNat < S16x48x128.size a) ∧
  (∀ a x, ((![v204, v202] : Fin 2 → IVec S16 32) a x).toNat < S48x512.size a)
theorem k0_idx1_inb : ∀ (v198 : IVec S16 32) (v201 : IVec S16 32) (v202 : IVec S16 32) (v204 : IVec S16 32) (k0_hw17 : k0_chk17 v198 v201 v202 v204), ∀ a x, ((![v198, v204, v201] : Fin 3 → IVec S16 32) a x).toNat < S16x48x128.size a := fun v198 v201 v202 v204 k0_hw17 => k0_hw17.1
theorem k0_idx2_inb : ∀ (v198 : IVec S16 32) (v201 : IVec S16 32) (v202 : IVec S16 32) (v204 : IVec S16 32) (k0_hw17 : k0_chk17 v198 v201 v202 v204), ∀ a x, ((![v204, v202] : Fin 2 → IVec S16 32) a x).toNat < S48x512.size a := fun v198 v201 v202 v204 k0_hw17 => k0_hw17.2

def k0_chk18 (v198 : IVec S16 32) (v201 : IVec S16 32) (v202 : IVec S16 32) (v207 : IVec S16 32) : Prop :=
  (∀ a x, ((![v198, v207, v201] : Fin 3 → IVec S16 32) a x).toNat < S16x48x128.size a) ∧
  (∀ a x, ((![v207, v202] : Fin 2 → IVec S16 32) a x).toNat < S48x512.size a)
theorem k0_idx3_inb : ∀ (v198 : IVec S16 32) (v201 : IVec S16 32) (v202 : IVec S16 32) (v207 : IVec S16 32) (k0_hw18 : k0_chk18 v198 v201 v202 v207), ∀ a x, ((![v198, v207, v201] : Fin 3 → IVec S16 32) a x).toNat < S16x48x128.size a := fun v198 v201 v202 v207 k0_hw18 => k0_hw18.1
theorem k0_idx4_inb : ∀ (v198 : IVec S16 32) (v201 : IVec S16 32) (v202 : IVec S16 32) (v207 : IVec S16 32) (k0_hw18 : k0_chk18 v198 v201 v202 v207), ∀ a x, ((![v207, v202] : Fin 2 → IVec S16 32) a x).toNat < S48x512.size a := fun v198 v201 v202 v207 k0_hw18 => k0_hw18.2

def k0_chk19 (v198 : IVec S16 32) (v201 : IVec S16 32) (v202 : IVec S16 32) (v210 : IVec S16 32) : Prop :=
  (∀ a x, ((![v198, v210, v201] : Fin 3 → IVec S16 32) a x).toNat < S16x48x128.size a) ∧
  (∀ a x, ((![v210, v202] : Fin 2 → IVec S16 32) a x).toNat < S48x512.size a)
theorem k0_idx5_inb : ∀ (v198 : IVec S16 32) (v201 : IVec S16 32) (v202 : IVec S16 32) (v210 : IVec S16 32) (k0_hw19 : k0_chk19 v198 v201 v202 v210), ∀ a x, ((![v198, v210, v201] : Fin 3 → IVec S16 32) a x).toNat < S16x48x128.size a := fun v198 v201 v202 v210 k0_hw19 => k0_hw19.1
theorem k0_idx6_inb : ∀ (v198 : IVec S16 32) (v201 : IVec S16 32) (v202 : IVec S16 32) (v210 : IVec S16 32) (k0_hw19 : k0_chk19 v198 v201 v202 v210), ∀ a x, ((![v210, v202] : Fin 2 → IVec S16 32) a x).toNat < S48x512.size a := fun v198 v201 v202 v210 k0_hw19 => k0_hw19.2

def k0_chk20 (v215 : IVec S16 32) (v218 : IVec S16 32) (v219 : IVec S16 32) (v221 : IVec S16 32) : Prop :=
  (∀ a x, ((![v215, v221, v218] : Fin 3 → IVec S16 32) a x).toNat < S16x48x128.size a) ∧
  (∀ a x, ((![v221, v219] : Fin 2 → IVec S16 32) a x).toNat < S48x512.size a)
theorem k0_idx7_inb : ∀ (v215 : IVec S16 32) (v218 : IVec S16 32) (v219 : IVec S16 32) (v221 : IVec S16 32) (k0_hw20 : k0_chk20 v215 v218 v219 v221), ∀ a x, ((![v215, v221, v218] : Fin 3 → IVec S16 32) a x).toNat < S16x48x128.size a := fun v215 v218 v219 v221 k0_hw20 => k0_hw20.1
theorem k0_idx8_inb : ∀ (v215 : IVec S16 32) (v218 : IVec S16 32) (v219 : IVec S16 32) (v221 : IVec S16 32) (k0_hw20 : k0_chk20 v215 v218 v219 v221), ∀ a x, ((![v221, v219] : Fin 2 → IVec S16 32) a x).toNat < S48x512.size a := fun v215 v218 v219 v221 k0_hw20 => k0_hw20.2

def k0_chk21 (v215 : IVec S16 32) (v218 : IVec S16 32) (v219 : IVec S16 32) (v224 : IVec S16 32) : Prop :=
  (∀ a x, ((![v215, v224, v218] : Fin 3 → IVec S16 32) a x).toNat < S16x48x128.size a) ∧
  (∀ a x, ((![v224, v219] : Fin 2 → IVec S16 32) a x).toNat < S48x512.size a)
theorem k0_idx9_inb : ∀ (v215 : IVec S16 32) (v218 : IVec S16 32) (v219 : IVec S16 32) (v224 : IVec S16 32) (k0_hw21 : k0_chk21 v215 v218 v219 v224), ∀ a x, ((![v215, v224, v218] : Fin 3 → IVec S16 32) a x).toNat < S16x48x128.size a := fun v215 v218 v219 v224 k0_hw21 => k0_hw21.1
theorem k0_idx10_inb : ∀ (v215 : IVec S16 32) (v218 : IVec S16 32) (v219 : IVec S16 32) (v224 : IVec S16 32) (k0_hw21 : k0_chk21 v215 v218 v219 v224), ∀ a x, ((![v224, v219] : Fin 2 → IVec S16 32) a x).toNat < S48x512.size a := fun v215 v218 v219 v224 k0_hw21 => k0_hw21.2

def k0_chk22 (v215 : IVec S16 32) (v218 : IVec S16 32) (v219 : IVec S16 32) (v227 : IVec S16 32) : Prop :=
  (∀ a x, ((![v215, v227, v218] : Fin 3 → IVec S16 32) a x).toNat < S16x48x128.size a) ∧
  (∀ a x, ((![v227, v219] : Fin 2 → IVec S16 32) a x).toNat < S48x512.size a)
theorem k0_idx11_inb : ∀ (v215 : IVec S16 32) (v218 : IVec S16 32) (v219 : IVec S16 32) (v227 : IVec S16 32) (k0_hw22 : k0_chk22 v215 v218 v219 v227), ∀ a x, ((![v215, v227, v218] : Fin 3 → IVec S16 32) a x).toNat < S16x48x128.size a := fun v215 v218 v219 v227 k0_hw22 => k0_hw22.1
theorem k0_idx12_inb : ∀ (v215 : IVec S16 32) (v218 : IVec S16 32) (v219 : IVec S16 32) (v227 : IVec S16 32) (k0_hw22 : k0_chk22 v215 v218 v219 v227), ∀ a x, ((![v227, v219] : Fin 2 → IVec S16 32) a x).toNat < S48x512.size a := fun v215 v218 v219 v227 k0_hw22 => k0_hw22.2

def k0_chk23 (v232 : IVec S16 32) (v235 : IVec S16 32) (v236 : IVec S16 32) (v238 : IVec S16 32) : Prop :=
  (∀ a x, ((![v232, v238, v235] : Fin 3 → IVec S16 32) a x).toNat < S16x48x128.size a) ∧
  (∀ a x, ((![v238, v236] : Fin 2 → IVec S16 32) a x).toNat < S48x512.size a)
theorem k0_idx13_inb : ∀ (v232 : IVec S16 32) (v235 : IVec S16 32) (v236 : IVec S16 32) (v238 : IVec S16 32) (k0_hw23 : k0_chk23 v232 v235 v236 v238), ∀ a x, ((![v232, v238, v235] : Fin 3 → IVec S16 32) a x).toNat < S16x48x128.size a := fun v232 v235 v236 v238 k0_hw23 => k0_hw23.1
theorem k0_idx14_inb : ∀ (v232 : IVec S16 32) (v235 : IVec S16 32) (v236 : IVec S16 32) (v238 : IVec S16 32) (k0_hw23 : k0_chk23 v232 v235 v236 v238), ∀ a x, ((![v238, v236] : Fin 2 → IVec S16 32) a x).toNat < S48x512.size a := fun v232 v235 v236 v238 k0_hw23 => k0_hw23.2

def k0_chk24 (v232 : IVec S16 32) (v235 : IVec S16 32) (v236 : IVec S16 32) (v241 : IVec S16 32) : Prop :=
  (∀ a x, ((![v232, v241, v235] : Fin 3 → IVec S16 32) a x).toNat < S16x48x128.size a) ∧
  (∀ a x, ((![v241, v236] : Fin 2 → IVec S16 32) a x).toNat < S48x512.size a)
theorem k0_idx15_inb : ∀ (v232 : IVec S16 32) (v235 : IVec S16 32) (v236 : IVec S16 32) (v241 : IVec S16 32) (k0_hw24 : k0_chk24 v232 v235 v236 v241), ∀ a x, ((![v232, v241, v235] : Fin 3 → IVec S16 32) a x).toNat < S16x48x128.size a := fun v232 v235 v236 v241 k0_hw24 => k0_hw24.1
theorem k0_idx16_inb : ∀ (v232 : IVec S16 32) (v235 : IVec S16 32) (v236 : IVec S16 32) (v241 : IVec S16 32) (k0_hw24 : k0_chk24 v232 v235 v236 v241), ∀ a x, ((![v241, v236] : Fin 2 → IVec S16 32) a x).toNat < S48x512.size a := fun v232 v235 v236 v241 k0_hw24 => k0_hw24.2

def k0_chk25 (v232 : IVec S16 32) (v235 : IVec S16 32) (v236 : IVec S16 32) (v244 : IVec S16 32) : Prop :=
  (∀ a x, ((![v232, v244, v235] : Fin 3 → IVec S16 32) a x).toNat < S16x48x128.size a) ∧
  (∀ a x, ((![v244, v236] : Fin 2 → IVec S16 32) a x).toNat < S48x512.size a)
theorem k0_idx17_inb : ∀ (v232 : IVec S16 32) (v235 : IVec S16 32) (v236 : IVec S16 32) (v244 : IVec S16 32) (k0_hw25 : k0_chk25 v232 v235 v236 v244), ∀ a x, ((![v232, v244, v235] : Fin 3 → IVec S16 32) a x).toNat < S16x48x128.size a := fun v232 v235 v236 v244 k0_hw25 => k0_hw25.1
theorem k0_idx18_inb : ∀ (v232 : IVec S16 32) (v235 : IVec S16 32) (v236 : IVec S16 32) (v244 : IVec S16 32) (k0_hw25 : k0_chk25 v232 v235 v236 v244), ∀ a x, ((![v244, v236] : Fin 2 → IVec S16 32) a x).toNat < S48x512.size a := fun v232 v235 v236 v244 k0_hw25 => k0_hw25.2

def k0_chk26 (v249 : IVec S16 32) (v252 : IVec S16 32) (v253 : IVec S16 32) (v255 : IVec S16 32) : Prop :=
  (∀ a x, ((![v249, v255, v252] : Fin 3 → IVec S16 32) a x).toNat < S16x48x128.size a) ∧
  (∀ a x, ((![v255, v253] : Fin 2 → IVec S16 32) a x).toNat < S48x512.size a)
theorem k0_idx19_inb : ∀ (v249 : IVec S16 32) (v252 : IVec S16 32) (v253 : IVec S16 32) (v255 : IVec S16 32) (k0_hw26 : k0_chk26 v249 v252 v253 v255), ∀ a x, ((![v249, v255, v252] : Fin 3 → IVec S16 32) a x).toNat < S16x48x128.size a := fun v249 v252 v253 v255 k0_hw26 => k0_hw26.1
theorem k0_idx20_inb : ∀ (v249 : IVec S16 32) (v252 : IVec S16 32) (v253 : IVec S16 32) (v255 : IVec S16 32) (k0_hw26 : k0_chk26 v249 v252 v253 v255), ∀ a x, ((![v255, v253] : Fin 2 → IVec S16 32) a x).toNat < S48x512.size a := fun v249 v252 v253 v255 k0_hw26 => k0_hw26.2

def k0_chk27 (v249 : IVec S16 32) (v252 : IVec S16 32) (v253 : IVec S16 32) (v258 : IVec S16 32) : Prop :=
  (∀ a x, ((![v249, v258, v252] : Fin 3 → IVec S16 32) a x).toNat < S16x48x128.size a) ∧
  (∀ a x, ((![v258, v253] : Fin 2 → IVec S16 32) a x).toNat < S48x512.size a)
theorem k0_idx21_inb : ∀ (v249 : IVec S16 32) (v252 : IVec S16 32) (v253 : IVec S16 32) (v258 : IVec S16 32) (k0_hw27 : k0_chk27 v249 v252 v253 v258), ∀ a x, ((![v249, v258, v252] : Fin 3 → IVec S16 32) a x).toNat < S16x48x128.size a := fun v249 v252 v253 v258 k0_hw27 => k0_hw27.1
theorem k0_idx22_inb : ∀ (v249 : IVec S16 32) (v252 : IVec S16 32) (v253 : IVec S16 32) (v258 : IVec S16 32) (k0_hw27 : k0_chk27 v249 v252 v253 v258), ∀ a x, ((![v258, v253] : Fin 2 → IVec S16 32) a x).toNat < S48x512.size a := fun v249 v252 v253 v258 k0_hw27 => k0_hw27.2

def k0_chk28 (v249 : IVec S16 32) (v252 : IVec S16 32) (v253 : IVec S16 32) (v261 : IVec S16 32) : Prop :=
  (∀ a x, ((![v249, v261, v252] : Fin 3 → IVec S16 32) a x).toNat < S16x48x128.size a) ∧
  (∀ a x, ((![v261, v253] : Fin 2 → IVec S16 32) a x).toNat < S48x512.size a)
theorem k0_idx23_inb : ∀ (v249 : IVec S16 32) (v252 : IVec S16 32) (v253 : IVec S16 32) (v261 : IVec S16 32) (k0_hw28 : k0_chk28 v249 v252 v253 v261), ∀ a x, ((![v249, v261, v252] : Fin 3 → IVec S16 32) a x).toNat < S16x48x128.size a := fun v249 v252 v253 v261 k0_hw28 => k0_hw28.1
theorem k0_idx24_inb : ∀ (v249 : IVec S16 32) (v252 : IVec S16 32) (v253 : IVec S16 32) (v261 : IVec S16 32) (k0_hw28 : k0_chk28 v249 v252 v253 v261), ∀ a x, ((![v261, v253] : Fin 2 → IVec S16 32) a x).toNat < S48x512.size a := fun v249 v252 v253 v261 k0_hw28 => k0_hw28.2

def k0_chk29 (v266 : IVec S16 32) (v269 : IVec S16 32) (v270 : IVec S16 32) (v272 : IVec S16 32) : Prop :=
  (∀ a x, ((![v266, v272, v269] : Fin 3 → IVec S16 32) a x).toNat < S16x48x128.size a) ∧
  (∀ a x, ((![v272, v270] : Fin 2 → IVec S16 32) a x).toNat < S48x512.size a)
theorem k0_idx25_inb : ∀ (v266 : IVec S16 32) (v269 : IVec S16 32) (v270 : IVec S16 32) (v272 : IVec S16 32) (k0_hw29 : k0_chk29 v266 v269 v270 v272), ∀ a x, ((![v266, v272, v269] : Fin 3 → IVec S16 32) a x).toNat < S16x48x128.size a := fun v266 v269 v270 v272 k0_hw29 => k0_hw29.1
theorem k0_idx26_inb : ∀ (v266 : IVec S16 32) (v269 : IVec S16 32) (v270 : IVec S16 32) (v272 : IVec S16 32) (k0_hw29 : k0_chk29 v266 v269 v270 v272), ∀ a x, ((![v272, v270] : Fin 2 → IVec S16 32) a x).toNat < S48x512.size a := fun v266 v269 v270 v272 k0_hw29 => k0_hw29.2

def k0_chk30 (v266 : IVec S16 32) (v269 : IVec S16 32) (v270 : IVec S16 32) (v275 : IVec S16 32) : Prop :=
  (∀ a x, ((![v266, v275, v269] : Fin 3 → IVec S16 32) a x).toNat < S16x48x128.size a) ∧
  (∀ a x, ((![v275, v270] : Fin 2 → IVec S16 32) a x).toNat < S48x512.size a)
theorem k0_idx27_inb : ∀ (v266 : IVec S16 32) (v269 : IVec S16 32) (v270 : IVec S16 32) (v275 : IVec S16 32) (k0_hw30 : k0_chk30 v266 v269 v270 v275), ∀ a x, ((![v266, v275, v269] : Fin 3 → IVec S16 32) a x).toNat < S16x48x128.size a := fun v266 v269 v270 v275 k0_hw30 => k0_hw30.1
theorem k0_idx28_inb : ∀ (v266 : IVec S16 32) (v269 : IVec S16 32) (v270 : IVec S16 32) (v275 : IVec S16 32) (k0_hw30 : k0_chk30 v266 v269 v270 v275), ∀ a x, ((![v275, v270] : Fin 2 → IVec S16 32) a x).toNat < S48x512.size a := fun v266 v269 v270 v275 k0_hw30 => k0_hw30.2

def k0_chk31 (v266 : IVec S16 32) (v269 : IVec S16 32) (v270 : IVec S16 32) (v278 : IVec S16 32) : Prop :=
  (∀ a x, ((![v266, v278, v269] : Fin 3 → IVec S16 32) a x).toNat < S16x48x128.size a) ∧
  (∀ a x, ((![v278, v270] : Fin 2 → IVec S16 32) a x).toNat < S48x512.size a)
theorem k0_idx29_inb : ∀ (v266 : IVec S16 32) (v269 : IVec S16 32) (v270 : IVec S16 32) (v278 : IVec S16 32) (k0_hw31 : k0_chk31 v266 v269 v270 v278), ∀ a x, ((![v266, v278, v269] : Fin 3 → IVec S16 32) a x).toNat < S16x48x128.size a := fun v266 v269 v270 v278 k0_hw31 => k0_hw31.1
theorem k0_idx30_inb : ∀ (v266 : IVec S16 32) (v269 : IVec S16 32) (v270 : IVec S16 32) (v278 : IVec S16 32) (k0_hw31 : k0_chk31 v266 v269 v270 v278), ∀ a x, ((![v278, v270] : Fin 2 → IVec S16 32) a x).toNat < S48x512.size a := fun v266 v269 v270 v278 k0_hw31 => k0_hw31.2

def k0_chk32 (v283 : IVec S16 32) (v286 : IVec S16 32) (v287 : IVec S16 32) (v289 : IVec S16 32) : Prop :=
  (∀ a x, ((![v283, v289, v286] : Fin 3 → IVec S16 32) a x).toNat < S16x48x128.size a) ∧
  (∀ a x, ((![v289, v287] : Fin 2 → IVec S16 32) a x).toNat < S48x512.size a)
theorem k0_idx31_inb : ∀ (v283 : IVec S16 32) (v286 : IVec S16 32) (v287 : IVec S16 32) (v289 : IVec S16 32) (k0_hw32 : k0_chk32 v283 v286 v287 v289), ∀ a x, ((![v283, v289, v286] : Fin 3 → IVec S16 32) a x).toNat < S16x48x128.size a := fun v283 v286 v287 v289 k0_hw32 => k0_hw32.1
theorem k0_idx32_inb : ∀ (v283 : IVec S16 32) (v286 : IVec S16 32) (v287 : IVec S16 32) (v289 : IVec S16 32) (k0_hw32 : k0_chk32 v283 v286 v287 v289), ∀ a x, ((![v289, v287] : Fin 2 → IVec S16 32) a x).toNat < S48x512.size a := fun v283 v286 v287 v289 k0_hw32 => k0_hw32.2

def k0_chk33 (v283 : IVec S16 32) (v286 : IVec S16 32) (v287 : IVec S16 32) (v292 : IVec S16 32) : Prop :=
  (∀ a x, ((![v283, v292, v286] : Fin 3 → IVec S16 32) a x).toNat < S16x48x128.size a) ∧
  (∀ a x, ((![v292, v287] : Fin 2 → IVec S16 32) a x).toNat < S48x512.size a)
theorem k0_idx33_inb : ∀ (v283 : IVec S16 32) (v286 : IVec S16 32) (v287 : IVec S16 32) (v292 : IVec S16 32) (k0_hw33 : k0_chk33 v283 v286 v287 v292), ∀ a x, ((![v283, v292, v286] : Fin 3 → IVec S16 32) a x).toNat < S16x48x128.size a := fun v283 v286 v287 v292 k0_hw33 => k0_hw33.1
theorem k0_idx34_inb : ∀ (v283 : IVec S16 32) (v286 : IVec S16 32) (v287 : IVec S16 32) (v292 : IVec S16 32) (k0_hw33 : k0_chk33 v283 v286 v287 v292), ∀ a x, ((![v292, v287] : Fin 2 → IVec S16 32) a x).toNat < S48x512.size a := fun v283 v286 v287 v292 k0_hw33 => k0_hw33.2

def k0_chk34 (v283 : IVec S16 32) (v286 : IVec S16 32) (v287 : IVec S16 32) (v295 : IVec S16 32) : Prop :=
  (∀ a x, ((![v283, v295, v286] : Fin 3 → IVec S16 32) a x).toNat < S16x48x128.size a) ∧
  (∀ a x, ((![v295, v287] : Fin 2 → IVec S16 32) a x).toNat < S48x512.size a)
theorem k0_idx35_inb : ∀ (v283 : IVec S16 32) (v286 : IVec S16 32) (v287 : IVec S16 32) (v295 : IVec S16 32) (k0_hw34 : k0_chk34 v283 v286 v287 v295), ∀ a x, ((![v283, v295, v286] : Fin 3 → IVec S16 32) a x).toNat < S16x48x128.size a := fun v283 v286 v287 v295 k0_hw34 => k0_hw34.1
theorem k0_idx36_inb : ∀ (v283 : IVec S16 32) (v286 : IVec S16 32) (v287 : IVec S16 32) (v295 : IVec S16 32) (k0_hw34 : k0_chk34 v283 v286 v287 v295), ∀ a x, ((![v295, v287] : Fin 2 → IVec S16 32) a x).toNat < S48x512.size a := fun v283 v286 v287 v295 k0_hw34 => k0_hw34.2

def k0_chk35 (v300 : IVec S16 32) (v303 : IVec S16 32) (v304 : IVec S16 32) (v306 : IVec S16 32) : Prop :=
  (∀ a x, ((![v300, v306, v303] : Fin 3 → IVec S16 32) a x).toNat < S16x48x128.size a) ∧
  (∀ a x, ((![v306, v304] : Fin 2 → IVec S16 32) a x).toNat < S48x512.size a)
theorem k0_idx37_inb : ∀ (v300 : IVec S16 32) (v303 : IVec S16 32) (v304 : IVec S16 32) (v306 : IVec S16 32) (k0_hw35 : k0_chk35 v300 v303 v304 v306), ∀ a x, ((![v300, v306, v303] : Fin 3 → IVec S16 32) a x).toNat < S16x48x128.size a := fun v300 v303 v304 v306 k0_hw35 => k0_hw35.1
theorem k0_idx38_inb : ∀ (v300 : IVec S16 32) (v303 : IVec S16 32) (v304 : IVec S16 32) (v306 : IVec S16 32) (k0_hw35 : k0_chk35 v300 v303 v304 v306), ∀ a x, ((![v306, v304] : Fin 2 → IVec S16 32) a x).toNat < S48x512.size a := fun v300 v303 v304 v306 k0_hw35 => k0_hw35.2

def k0_chk36 (v300 : IVec S16 32) (v303 : IVec S16 32) (v304 : IVec S16 32) (v309 : IVec S16 32) : Prop :=
  (∀ a x, ((![v300, v309, v303] : Fin 3 → IVec S16 32) a x).toNat < S16x48x128.size a) ∧
  (∀ a x, ((![v309, v304] : Fin 2 → IVec S16 32) a x).toNat < S48x512.size a)
theorem k0_idx39_inb : ∀ (v300 : IVec S16 32) (v303 : IVec S16 32) (v304 : IVec S16 32) (v309 : IVec S16 32) (k0_hw36 : k0_chk36 v300 v303 v304 v309), ∀ a x, ((![v300, v309, v303] : Fin 3 → IVec S16 32) a x).toNat < S16x48x128.size a := fun v300 v303 v304 v309 k0_hw36 => k0_hw36.1
theorem k0_idx40_inb : ∀ (v300 : IVec S16 32) (v303 : IVec S16 32) (v304 : IVec S16 32) (v309 : IVec S16 32) (k0_hw36 : k0_chk36 v300 v303 v304 v309), ∀ a x, ((![v309, v304] : Fin 2 → IVec S16 32) a x).toNat < S48x512.size a := fun v300 v303 v304 v309 k0_hw36 => k0_hw36.2

def k0_chk37 (v300 : IVec S16 32) (v303 : IVec S16 32) (v304 : IVec S16 32) (v312 : IVec S16 32) : Prop :=
  (∀ a x, ((![v300, v312, v303] : Fin 3 → IVec S16 32) a x).toNat < S16x48x128.size a) ∧
  (∀ a x, ((![v312, v304] : Fin 2 → IVec S16 32) a x).toNat < S48x512.size a)
theorem k0_idx41_inb : ∀ (v300 : IVec S16 32) (v303 : IVec S16 32) (v304 : IVec S16 32) (v312 : IVec S16 32) (k0_hw37 : k0_chk37 v300 v303 v304 v312), ∀ a x, ((![v300, v312, v303] : Fin 3 → IVec S16 32) a x).toNat < S16x48x128.size a := fun v300 v303 v304 v312 k0_hw37 => k0_hw37.1
theorem k0_idx42_inb : ∀ (v300 : IVec S16 32) (v303 : IVec S16 32) (v304 : IVec S16 32) (v312 : IVec S16 32) (k0_hw37 : k0_chk37 v300 v303 v304 v312), ∀ a x, ((![v312, v304] : Fin 2 → IVec S16 32) a x).toNat < S48x512.size a := fun v300 v303 v304 v312 k0_hw37 => k0_hw37.2

def k0_chk38 (v317 : IVec S16 32) (v320 : IVec S16 32) (v321 : IVec S16 32) (v323 : IVec S16 32) : Prop :=
  (∀ a x, ((![v317, v323, v320] : Fin 3 → IVec S16 32) a x).toNat < S16x48x128.size a) ∧
  (∀ a x, ((![v323, v321] : Fin 2 → IVec S16 32) a x).toNat < S48x512.size a)
theorem k0_idx43_inb : ∀ (v317 : IVec S16 32) (v320 : IVec S16 32) (v321 : IVec S16 32) (v323 : IVec S16 32) (k0_hw38 : k0_chk38 v317 v320 v321 v323), ∀ a x, ((![v317, v323, v320] : Fin 3 → IVec S16 32) a x).toNat < S16x48x128.size a := fun v317 v320 v321 v323 k0_hw38 => k0_hw38.1
theorem k0_idx44_inb : ∀ (v317 : IVec S16 32) (v320 : IVec S16 32) (v321 : IVec S16 32) (v323 : IVec S16 32) (k0_hw38 : k0_chk38 v317 v320 v321 v323), ∀ a x, ((![v323, v321] : Fin 2 → IVec S16 32) a x).toNat < S48x512.size a := fun v317 v320 v321 v323 k0_hw38 => k0_hw38.2

def k0_chk39 (v317 : IVec S16 32) (v320 : IVec S16 32) (v321 : IVec S16 32) (v326 : IVec S16 32) : Prop :=
  (∀ a x, ((![v317, v326, v320] : Fin 3 → IVec S16 32) a x).toNat < S16x48x128.size a) ∧
  (∀ a x, ((![v326, v321] : Fin 2 → IVec S16 32) a x).toNat < S48x512.size a)
theorem k0_idx45_inb : ∀ (v317 : IVec S16 32) (v320 : IVec S16 32) (v321 : IVec S16 32) (v326 : IVec S16 32) (k0_hw39 : k0_chk39 v317 v320 v321 v326), ∀ a x, ((![v317, v326, v320] : Fin 3 → IVec S16 32) a x).toNat < S16x48x128.size a := fun v317 v320 v321 v326 k0_hw39 => k0_hw39.1
theorem k0_idx46_inb : ∀ (v317 : IVec S16 32) (v320 : IVec S16 32) (v321 : IVec S16 32) (v326 : IVec S16 32) (k0_hw39 : k0_chk39 v317 v320 v321 v326), ∀ a x, ((![v326, v321] : Fin 2 → IVec S16 32) a x).toNat < S48x512.size a := fun v317 v320 v321 v326 k0_hw39 => k0_hw39.2

def k0_chk40 (v317 : IVec S16 32) (v320 : IVec S16 32) (v321 : IVec S16 32) (v329 : IVec S16 32) : Prop :=
  (∀ a x, ((![v317, v329, v320] : Fin 3 → IVec S16 32) a x).toNat < S16x48x128.size a) ∧
  (∀ a x, ((![v329, v321] : Fin 2 → IVec S16 32) a x).toNat < S48x512.size a)
theorem k0_idx47_inb : ∀ (v317 : IVec S16 32) (v320 : IVec S16 32) (v321 : IVec S16 32) (v329 : IVec S16 32) (k0_hw40 : k0_chk40 v317 v320 v321 v329), ∀ a x, ((![v317, v329, v320] : Fin 3 → IVec S16 32) a x).toNat < S16x48x128.size a := fun v317 v320 v321 v329 k0_hw40 => k0_hw40.1
theorem k0_idx48_inb : ∀ (v317 : IVec S16 32) (v320 : IVec S16 32) (v321 : IVec S16 32) (v329 : IVec S16 32) (k0_hw40 : k0_chk40 v317 v320 v321 v329), ∀ a x, ((![v329, v321] : Fin 2 → IVec S16 32) a x).toNat < S48x512.size a := fun v317 v320 v321 v329 k0_hw40 => k0_hw40.2
def k0_cond1 (k0_t1 : Fin k0_t1_loop.trips) : BitVec 1 :=
  let c0_i32_128 : BitVec 32 := 0#32
  let c1_i32_129 : BitVec 32 := 1#32
  let arg11 : BitVec 32 := Scf.iv c0_i32_128 c1_i32_129 k0_t1
  let c31_i32 : BitVec 32 := 31#32
  let v331 : BitVec 1 := Scalar.cmpi .slt arg11 c31_i32
  let v332 : BitVec 32 := Scalar.extui v331
  let c0_i32_201 : BitVec 32 := 0#32
  let v333 : BitVec 1 := Scalar.cmpi .ne v332 c0_i32_201
  v333

def k0_off19 (k0_t1 : Fin k0_t1_loop.trips) : Fin 1 → Nat :=
  let c0_i32_128 : BitVec 32 := 0#32
  let c1_i32_129 : BitVec 32 := 1#32
  let arg11 : BitVec 32 := Scf.iv c0_i32_128 c1_i32_129 k0_t1
  let c1_i32_271 : BitVec 32 := 1#32
  let v479 : BitVec 32 := Scalar.addi arg11 c1_i32_271
  let c16_i32_272 : BitVec 32 := 16#32
  let v480 : BitVec 32 := Scalar.muli v479 c16_i32_272
  let v481 : Index := Scalar.indexCast v480
  ![v481.toNat]
def k0_mult17 (v484 : BitVec 32) : BitVec 32 :=
  let c7_i32_273 : BitVec 32 := 7#32
  let v485 : BitVec 32 := Scalar.shrsi v484 c7_i32_273
  let c128_i32_274 : BitVec 32 := 128#32
  let v486 : BitVec 32 := Scalar.muli v485 c128_i32_274
  v486

def k0_off20 (v484 : BitVec 32) : Fin 2 → Nat :=
  let c0_i32_278 : BitVec 32 := 0#32
  let c7_i32_273 : BitVec 32 := 7#32
  let v485 : BitVec 32 := Scalar.shrsi v484 c7_i32_273
  let c128_i32_274 : BitVec 32 := 128#32
  let v486 : BitVec 32 := Scalar.muli v485 c128_i32_274
  let v487 : BitVec 32 := v486
  ![0, v487.toNat]

def k0_chk41 (k0_t1 : Fin k0_t1_loop.trips) (v484 : BitVec 32) : Prop :=
  (∀ (k0_h1 : k0_cond1 k0_t1 = 1#1), 128 ∣ (k0_mult17 v484).toNat) ∧
  (∀ (k0_h1 : k0_cond1 k0_t1 = 1#1), ∀ a, (k0_off20 v484) a + S48x128.size a ≤ S48x1000064.size a)
theorem k0_mult17_dvd : ∀ (k0_t1 : Fin k0_t1_loop.trips) (v484 : BitVec 32) (k0_hw41 : k0_chk41 k0_t1 v484), ∀ (k0_h1 : k0_cond1 k0_t1 = 1#1), 128 ∣ (k0_mult17 v484).toNat := fun k0_t1 v484 k0_hw41 k0_h1 => k0_hw41.1 k0_h1
theorem k0_off20_inb : ∀ (k0_t1 : Fin k0_t1_loop.trips) (v484 : BitVec 32) (k0_hw41 : k0_chk41 k0_t1 v484), ∀ (k0_h1 : k0_cond1 k0_t1 = 1#1), ∀ a, (k0_off20 v484) a + S48x128.size a ≤ S48x1000064.size a := fun k0_t1 v484 k0_hw41 k0_h1 => k0_hw41.2 k0_h1

def k0_mult18 (v495 : BitVec 32) : BitVec 32 :=
  let c7_i32_282 : BitVec 32 := 7#32
  let v496 : BitVec 32 := Scalar.shrsi v495 c7_i32_282
  let c128_i32_283 : BitVec 32 := 128#32
  let v497 : BitVec 32 := Scalar.muli v496 c128_i32_283
  v497

def k0_off21 (v495 : BitVec 32) : Fin 2 → Nat :=
  let c0_i32_287 : BitVec 32 := 0#32
  let c7_i32_282 : BitVec 32 := 7#32
  let v496 : BitVec 32 := Scalar.shrsi v495 c7_i32_282
  let c128_i32_283 : BitVec 32 := 128#32
  let v497 : BitVec 32 := Scalar.muli v496 c128_i32_283
  let v498 : BitVec 32 := v497
  ![0, v498.toNat]

def k0_chk42 (k0_t1 : Fin k0_t1_loop.trips) (v495 : BitVec 32) : Prop :=
  (∀ (k0_h1 : k0_cond1 k0_t1 = 1#1), 128 ∣ (k0_mult18 v495).toNat) ∧
  (∀ (k0_h1 : k0_cond1 k0_t1 = 1#1), ∀ a, (k0_off21 v495) a + S48x128.size a ≤ S48x1000064.size a)
theorem k0_mult18_dvd : ∀ (k0_t1 : Fin k0_t1_loop.trips) (v495 : BitVec 32) (k0_hw42 : k0_chk42 k0_t1 v495), ∀ (k0_h1 : k0_cond1 k0_t1 = 1#1), 128 ∣ (k0_mult18 v495).toNat := fun k0_t1 v495 k0_hw42 k0_h1 => k0_hw42.1 k0_h1
theorem k0_off21_inb : ∀ (k0_t1 : Fin k0_t1_loop.trips) (v495 : BitVec 32) (k0_hw42 : k0_chk42 k0_t1 v495), ∀ (k0_h1 : k0_cond1 k0_t1 = 1#1), ∀ a, (k0_off21 v495) a + S48x128.size a ≤ S48x1000064.size a := fun k0_t1 v495 k0_hw42 k0_h1 => k0_hw42.2 k0_h1

def k0_mult19 (v506 : BitVec 32) : BitVec 32 :=
  let c7_i32_291 : BitVec 32 := 7#32
  let v507 : BitVec 32 := Scalar.shrsi v506 c7_i32_291
  let c128_i32_292 : BitVec 32 := 128#32
  let v508 : BitVec 32 := Scalar.muli v507 c128_i32_292
  v508

def k0_off22 (v506 : BitVec 32) : Fin 2 → Nat :=
  let c0_i32_296 : BitVec 32 := 0#32
  let c7_i32_291 : BitVec 32 := 7#32
  let v507 : BitVec 32 := Scalar.shrsi v506 c7_i32_291
  let c128_i32_292 : BitVec 32 := 128#32
  let v508 : BitVec 32 := Scalar.muli v507 c128_i32_292
  let v509 : BitVec 32 := v508
  ![0, v509.toNat]

def k0_chk43 (k0_t1 : Fin k0_t1_loop.trips) (v506 : BitVec 32) : Prop :=
  (∀ (k0_h1 : k0_cond1 k0_t1 = 1#1), 128 ∣ (k0_mult19 v506).toNat) ∧
  (∀ (k0_h1 : k0_cond1 k0_t1 = 1#1), ∀ a, (k0_off22 v506) a + S48x128.size a ≤ S48x1000064.size a)
theorem k0_mult19_dvd : ∀ (k0_t1 : Fin k0_t1_loop.trips) (v506 : BitVec 32) (k0_hw43 : k0_chk43 k0_t1 v506), ∀ (k0_h1 : k0_cond1 k0_t1 = 1#1), 128 ∣ (k0_mult19 v506).toNat := fun k0_t1 v506 k0_hw43 k0_h1 => k0_hw43.1 k0_h1
theorem k0_off22_inb : ∀ (k0_t1 : Fin k0_t1_loop.trips) (v506 : BitVec 32) (k0_hw43 : k0_chk43 k0_t1 v506), ∀ (k0_h1 : k0_cond1 k0_t1 = 1#1), ∀ a, (k0_off22 v506) a + S48x128.size a ≤ S48x1000064.size a := fun k0_t1 v506 k0_hw43 k0_h1 => k0_hw43.2 k0_h1

def k0_mult20 (v517 : BitVec 32) : BitVec 32 :=
  let c7_i32_300 : BitVec 32 := 7#32
  let v518 : BitVec 32 := Scalar.shrsi v517 c7_i32_300
  let c128_i32_301 : BitVec 32 := 128#32
  let v519 : BitVec 32 := Scalar.muli v518 c128_i32_301
  v519

def k0_off23 (v517 : BitVec 32) : Fin 2 → Nat :=
  let c0_i32_305 : BitVec 32 := 0#32
  let c7_i32_300 : BitVec 32 := 7#32
  let v518 : BitVec 32 := Scalar.shrsi v517 c7_i32_300
  let c128_i32_301 : BitVec 32 := 128#32
  let v519 : BitVec 32 := Scalar.muli v518 c128_i32_301
  let v520 : BitVec 32 := v519
  ![0, v520.toNat]

def k0_chk44 (k0_t1 : Fin k0_t1_loop.trips) (v517 : BitVec 32) : Prop :=
  (∀ (k0_h1 : k0_cond1 k0_t1 = 1#1), 128 ∣ (k0_mult20 v517).toNat) ∧
  (∀ (k0_h1 : k0_cond1 k0_t1 = 1#1), ∀ a, (k0_off23 v517) a + S48x128.size a ≤ S48x1000064.size a)
theorem k0_mult20_dvd : ∀ (k0_t1 : Fin k0_t1_loop.trips) (v517 : BitVec 32) (k0_hw44 : k0_chk44 k0_t1 v517), ∀ (k0_h1 : k0_cond1 k0_t1 = 1#1), 128 ∣ (k0_mult20 v517).toNat := fun k0_t1 v517 k0_hw44 k0_h1 => k0_hw44.1 k0_h1
theorem k0_off23_inb : ∀ (k0_t1 : Fin k0_t1_loop.trips) (v517 : BitVec 32) (k0_hw44 : k0_chk44 k0_t1 v517), ∀ (k0_h1 : k0_cond1 k0_t1 = 1#1), ∀ a, (k0_off23 v517) a + S48x128.size a ≤ S48x1000064.size a := fun k0_t1 v517 k0_hw44 k0_h1 => k0_hw44.2 k0_h1

def k0_mult21 (v528 : BitVec 32) : BitVec 32 :=
  let c7_i32_309 : BitVec 32 := 7#32
  let v529 : BitVec 32 := Scalar.shrsi v528 c7_i32_309
  let c128_i32_310 : BitVec 32 := 128#32
  let v530 : BitVec 32 := Scalar.muli v529 c128_i32_310
  v530

def k0_off24 (v528 : BitVec 32) : Fin 2 → Nat :=
  let c0_i32_314 : BitVec 32 := 0#32
  let c7_i32_309 : BitVec 32 := 7#32
  let v529 : BitVec 32 := Scalar.shrsi v528 c7_i32_309
  let c128_i32_310 : BitVec 32 := 128#32
  let v530 : BitVec 32 := Scalar.muli v529 c128_i32_310
  let v531 : BitVec 32 := v530
  ![0, v531.toNat]

def k0_chk45 (k0_t1 : Fin k0_t1_loop.trips) (v528 : BitVec 32) : Prop :=
  (∀ (k0_h1 : k0_cond1 k0_t1 = 1#1), 128 ∣ (k0_mult21 v528).toNat) ∧
  (∀ (k0_h1 : k0_cond1 k0_t1 = 1#1), ∀ a, (k0_off24 v528) a + S48x128.size a ≤ S48x1000064.size a)
theorem k0_mult21_dvd : ∀ (k0_t1 : Fin k0_t1_loop.trips) (v528 : BitVec 32) (k0_hw45 : k0_chk45 k0_t1 v528), ∀ (k0_h1 : k0_cond1 k0_t1 = 1#1), 128 ∣ (k0_mult21 v528).toNat := fun k0_t1 v528 k0_hw45 k0_h1 => k0_hw45.1 k0_h1
theorem k0_off24_inb : ∀ (k0_t1 : Fin k0_t1_loop.trips) (v528 : BitVec 32) (k0_hw45 : k0_chk45 k0_t1 v528), ∀ (k0_h1 : k0_cond1 k0_t1 = 1#1), ∀ a, (k0_off24 v528) a + S48x128.size a ≤ S48x1000064.size a := fun k0_t1 v528 k0_hw45 k0_h1 => k0_hw45.2 k0_h1

def k0_mult22 (v539 : BitVec 32) : BitVec 32 :=
  let c7_i32_318 : BitVec 32 := 7#32
  let v540 : BitVec 32 := Scalar.shrsi v539 c7_i32_318
  let c128_i32_319 : BitVec 32 := 128#32
  let v541 : BitVec 32 := Scalar.muli v540 c128_i32_319
  v541

def k0_off25 (v539 : BitVec 32) : Fin 2 → Nat :=
  let c0_i32_323 : BitVec 32 := 0#32
  let c7_i32_318 : BitVec 32 := 7#32
  let v540 : BitVec 32 := Scalar.shrsi v539 c7_i32_318
  let c128_i32_319 : BitVec 32 := 128#32
  let v541 : BitVec 32 := Scalar.muli v540 c128_i32_319
  let v542 : BitVec 32 := v541
  ![0, v542.toNat]

def k0_chk46 (k0_t1 : Fin k0_t1_loop.trips) (v539 : BitVec 32) : Prop :=
  (∀ (k0_h1 : k0_cond1 k0_t1 = 1#1), 128 ∣ (k0_mult22 v539).toNat) ∧
  (∀ (k0_h1 : k0_cond1 k0_t1 = 1#1), ∀ a, (k0_off25 v539) a + S48x128.size a ≤ S48x1000064.size a)
theorem k0_mult22_dvd : ∀ (k0_t1 : Fin k0_t1_loop.trips) (v539 : BitVec 32) (k0_hw46 : k0_chk46 k0_t1 v539), ∀ (k0_h1 : k0_cond1 k0_t1 = 1#1), 128 ∣ (k0_mult22 v539).toNat := fun k0_t1 v539 k0_hw46 k0_h1 => k0_hw46.1 k0_h1
theorem k0_off25_inb : ∀ (k0_t1 : Fin k0_t1_loop.trips) (v539 : BitVec 32) (k0_hw46 : k0_chk46 k0_t1 v539), ∀ (k0_h1 : k0_cond1 k0_t1 = 1#1), ∀ a, (k0_off25 v539) a + S48x128.size a ≤ S48x1000064.size a := fun k0_t1 v539 k0_hw46 k0_h1 => k0_hw46.2 k0_h1

def k0_mult23 (v550 : BitVec 32) : BitVec 32 :=
  let c7_i32_327 : BitVec 32 := 7#32
  let v551 : BitVec 32 := Scalar.shrsi v550 c7_i32_327
  let c128_i32_328 : BitVec 32 := 128#32
  let v552 : BitVec 32 := Scalar.muli v551 c128_i32_328
  v552

def k0_off26 (v550 : BitVec 32) : Fin 2 → Nat :=
  let c0_i32_332 : BitVec 32 := 0#32
  let c7_i32_327 : BitVec 32 := 7#32
  let v551 : BitVec 32 := Scalar.shrsi v550 c7_i32_327
  let c128_i32_328 : BitVec 32 := 128#32
  let v552 : BitVec 32 := Scalar.muli v551 c128_i32_328
  let v553 : BitVec 32 := v552
  ![0, v553.toNat]

def k0_chk47 (k0_t1 : Fin k0_t1_loop.trips) (v550 : BitVec 32) : Prop :=
  (∀ (k0_h1 : k0_cond1 k0_t1 = 1#1), 128 ∣ (k0_mult23 v550).toNat) ∧
  (∀ (k0_h1 : k0_cond1 k0_t1 = 1#1), ∀ a, (k0_off26 v550) a + S48x128.size a ≤ S48x1000064.size a)
theorem k0_mult23_dvd : ∀ (k0_t1 : Fin k0_t1_loop.trips) (v550 : BitVec 32) (k0_hw47 : k0_chk47 k0_t1 v550), ∀ (k0_h1 : k0_cond1 k0_t1 = 1#1), 128 ∣ (k0_mult23 v550).toNat := fun k0_t1 v550 k0_hw47 k0_h1 => k0_hw47.1 k0_h1
theorem k0_off26_inb : ∀ (k0_t1 : Fin k0_t1_loop.trips) (v550 : BitVec 32) (k0_hw47 : k0_chk47 k0_t1 v550), ∀ (k0_h1 : k0_cond1 k0_t1 = 1#1), ∀ a, (k0_off26 v550) a + S48x128.size a ≤ S48x1000064.size a := fun k0_t1 v550 k0_hw47 k0_h1 => k0_hw47.2 k0_h1

def k0_mult24 (v561 : BitVec 32) : BitVec 32 :=
  let c7_i32_336 : BitVec 32 := 7#32
  let v562 : BitVec 32 := Scalar.shrsi v561 c7_i32_336
  let c128_i32_337 : BitVec 32 := 128#32
  let v563 : BitVec 32 := Scalar.muli v562 c128_i32_337
  v563

def k0_off27 (v561 : BitVec 32) : Fin 2 → Nat :=
  let c0_i32_341 : BitVec 32 := 0#32
  let c7_i32_336 : BitVec 32 := 7#32
  let v562 : BitVec 32 := Scalar.shrsi v561 c7_i32_336
  let c128_i32_337 : BitVec 32 := 128#32
  let v563 : BitVec 32 := Scalar.muli v562 c128_i32_337
  let v564 : BitVec 32 := v563
  ![0, v564.toNat]

def k0_chk48 (k0_t1 : Fin k0_t1_loop.trips) (v561 : BitVec 32) : Prop :=
  (∀ (k0_h1 : k0_cond1 k0_t1 = 1#1), 128 ∣ (k0_mult24 v561).toNat) ∧
  (∀ (k0_h1 : k0_cond1 k0_t1 = 1#1), ∀ a, (k0_off27 v561) a + S48x128.size a ≤ S48x1000064.size a)
theorem k0_mult24_dvd : ∀ (k0_t1 : Fin k0_t1_loop.trips) (v561 : BitVec 32) (k0_hw48 : k0_chk48 k0_t1 v561), ∀ (k0_h1 : k0_cond1 k0_t1 = 1#1), 128 ∣ (k0_mult24 v561).toNat := fun k0_t1 v561 k0_hw48 k0_h1 => k0_hw48.1 k0_h1
theorem k0_off27_inb : ∀ (k0_t1 : Fin k0_t1_loop.trips) (v561 : BitVec 32) (k0_hw48 : k0_chk48 k0_t1 v561), ∀ (k0_h1 : k0_cond1 k0_t1 = 1#1), ∀ a, (k0_off27 v561) a + S48x128.size a ≤ S48x1000064.size a := fun k0_t1 v561 k0_hw48 k0_h1 => k0_hw48.2 k0_h1

def k0_chk49 (v343 : IVec S16 32) (v346 : IVec S16 32) (v347 : IVec S16 32) (v349 : IVec S16 32) : Prop :=
  (∀ a x, ((![v343, v349, v346] : Fin 3 → IVec S16 32) a x).toNat < S16x48x128.size a) ∧
  (∀ a x, ((![v349, v347] : Fin 2 → IVec S16 32) a x).toNat < S48x512.size a)
theorem k0_idx49_inb : ∀ (v343 : IVec S16 32) (v346 : IVec S16 32) (v347 : IVec S16 32) (v349 : IVec S16 32) (k0_hw49 : k0_chk49 v343 v346 v347 v349), ∀ a x, ((![v343, v349, v346] : Fin 3 → IVec S16 32) a x).toNat < S16x48x128.size a := fun v343 v346 v347 v349 k0_hw49 => k0_hw49.1
theorem k0_idx50_inb : ∀ (v343 : IVec S16 32) (v346 : IVec S16 32) (v347 : IVec S16 32) (v349 : IVec S16 32) (k0_hw49 : k0_chk49 v343 v346 v347 v349), ∀ a x, ((![v349, v347] : Fin 2 → IVec S16 32) a x).toNat < S48x512.size a := fun v343 v346 v347 v349 k0_hw49 => k0_hw49.2

def k0_chk50 (v343 : IVec S16 32) (v346 : IVec S16 32) (v347 : IVec S16 32) (v352 : IVec S16 32) : Prop :=
  (∀ a x, ((![v343, v352, v346] : Fin 3 → IVec S16 32) a x).toNat < S16x48x128.size a) ∧
  (∀ a x, ((![v352, v347] : Fin 2 → IVec S16 32) a x).toNat < S48x512.size a)
theorem k0_idx51_inb : ∀ (v343 : IVec S16 32) (v346 : IVec S16 32) (v347 : IVec S16 32) (v352 : IVec S16 32) (k0_hw50 : k0_chk50 v343 v346 v347 v352), ∀ a x, ((![v343, v352, v346] : Fin 3 → IVec S16 32) a x).toNat < S16x48x128.size a := fun v343 v346 v347 v352 k0_hw50 => k0_hw50.1
theorem k0_idx52_inb : ∀ (v343 : IVec S16 32) (v346 : IVec S16 32) (v347 : IVec S16 32) (v352 : IVec S16 32) (k0_hw50 : k0_chk50 v343 v346 v347 v352), ∀ a x, ((![v352, v347] : Fin 2 → IVec S16 32) a x).toNat < S48x512.size a := fun v343 v346 v347 v352 k0_hw50 => k0_hw50.2

def k0_chk51 (v343 : IVec S16 32) (v346 : IVec S16 32) (v347 : IVec S16 32) (v355 : IVec S16 32) : Prop :=
  (∀ a x, ((![v343, v355, v346] : Fin 3 → IVec S16 32) a x).toNat < S16x48x128.size a) ∧
  (∀ a x, ((![v355, v347] : Fin 2 → IVec S16 32) a x).toNat < S48x512.size a)
theorem k0_idx53_inb : ∀ (v343 : IVec S16 32) (v346 : IVec S16 32) (v347 : IVec S16 32) (v355 : IVec S16 32) (k0_hw51 : k0_chk51 v343 v346 v347 v355), ∀ a x, ((![v343, v355, v346] : Fin 3 → IVec S16 32) a x).toNat < S16x48x128.size a := fun v343 v346 v347 v355 k0_hw51 => k0_hw51.1
theorem k0_idx54_inb : ∀ (v343 : IVec S16 32) (v346 : IVec S16 32) (v347 : IVec S16 32) (v355 : IVec S16 32) (k0_hw51 : k0_chk51 v343 v346 v347 v355), ∀ a x, ((![v355, v347] : Fin 2 → IVec S16 32) a x).toNat < S48x512.size a := fun v343 v346 v347 v355 k0_hw51 => k0_hw51.2

def k0_chk52 (v360 : IVec S16 32) (v363 : IVec S16 32) (v364 : IVec S16 32) (v366 : IVec S16 32) : Prop :=
  (∀ a x, ((![v360, v366, v363] : Fin 3 → IVec S16 32) a x).toNat < S16x48x128.size a) ∧
  (∀ a x, ((![v366, v364] : Fin 2 → IVec S16 32) a x).toNat < S48x512.size a)
theorem k0_idx55_inb : ∀ (v360 : IVec S16 32) (v363 : IVec S16 32) (v364 : IVec S16 32) (v366 : IVec S16 32) (k0_hw52 : k0_chk52 v360 v363 v364 v366), ∀ a x, ((![v360, v366, v363] : Fin 3 → IVec S16 32) a x).toNat < S16x48x128.size a := fun v360 v363 v364 v366 k0_hw52 => k0_hw52.1
theorem k0_idx56_inb : ∀ (v360 : IVec S16 32) (v363 : IVec S16 32) (v364 : IVec S16 32) (v366 : IVec S16 32) (k0_hw52 : k0_chk52 v360 v363 v364 v366), ∀ a x, ((![v366, v364] : Fin 2 → IVec S16 32) a x).toNat < S48x512.size a := fun v360 v363 v364 v366 k0_hw52 => k0_hw52.2

def k0_chk53 (v360 : IVec S16 32) (v363 : IVec S16 32) (v364 : IVec S16 32) (v369 : IVec S16 32) : Prop :=
  (∀ a x, ((![v360, v369, v363] : Fin 3 → IVec S16 32) a x).toNat < S16x48x128.size a) ∧
  (∀ a x, ((![v369, v364] : Fin 2 → IVec S16 32) a x).toNat < S48x512.size a)
theorem k0_idx57_inb : ∀ (v360 : IVec S16 32) (v363 : IVec S16 32) (v364 : IVec S16 32) (v369 : IVec S16 32) (k0_hw53 : k0_chk53 v360 v363 v364 v369), ∀ a x, ((![v360, v369, v363] : Fin 3 → IVec S16 32) a x).toNat < S16x48x128.size a := fun v360 v363 v364 v369 k0_hw53 => k0_hw53.1
theorem k0_idx58_inb : ∀ (v360 : IVec S16 32) (v363 : IVec S16 32) (v364 : IVec S16 32) (v369 : IVec S16 32) (k0_hw53 : k0_chk53 v360 v363 v364 v369), ∀ a x, ((![v369, v364] : Fin 2 → IVec S16 32) a x).toNat < S48x512.size a := fun v360 v363 v364 v369 k0_hw53 => k0_hw53.2

def k0_chk54 (v360 : IVec S16 32) (v363 : IVec S16 32) (v364 : IVec S16 32) (v372 : IVec S16 32) : Prop :=
  (∀ a x, ((![v360, v372, v363] : Fin 3 → IVec S16 32) a x).toNat < S16x48x128.size a) ∧
  (∀ a x, ((![v372, v364] : Fin 2 → IVec S16 32) a x).toNat < S48x512.size a)
theorem k0_idx59_inb : ∀ (v360 : IVec S16 32) (v363 : IVec S16 32) (v364 : IVec S16 32) (v372 : IVec S16 32) (k0_hw54 : k0_chk54 v360 v363 v364 v372), ∀ a x, ((![v360, v372, v363] : Fin 3 → IVec S16 32) a x).toNat < S16x48x128.size a := fun v360 v363 v364 v372 k0_hw54 => k0_hw54.1
theorem k0_idx60_inb : ∀ (v360 : IVec S16 32) (v363 : IVec S16 32) (v364 : IVec S16 32) (v372 : IVec S16 32) (k0_hw54 : k0_chk54 v360 v363 v364 v372), ∀ a x, ((![v372, v364] : Fin 2 → IVec S16 32) a x).toNat < S48x512.size a := fun v360 v363 v364 v372 k0_hw54 => k0_hw54.2

def k0_chk55 (v377 : IVec S16 32) (v380 : IVec S16 32) (v381 : IVec S16 32) (v383 : IVec S16 32) : Prop :=
  (∀ a x, ((![v377, v383, v380] : Fin 3 → IVec S16 32) a x).toNat < S16x48x128.size a) ∧
  (∀ a x, ((![v383, v381] : Fin 2 → IVec S16 32) a x).toNat < S48x512.size a)
theorem k0_idx61_inb : ∀ (v377 : IVec S16 32) (v380 : IVec S16 32) (v381 : IVec S16 32) (v383 : IVec S16 32) (k0_hw55 : k0_chk55 v377 v380 v381 v383), ∀ a x, ((![v377, v383, v380] : Fin 3 → IVec S16 32) a x).toNat < S16x48x128.size a := fun v377 v380 v381 v383 k0_hw55 => k0_hw55.1
theorem k0_idx62_inb : ∀ (v377 : IVec S16 32) (v380 : IVec S16 32) (v381 : IVec S16 32) (v383 : IVec S16 32) (k0_hw55 : k0_chk55 v377 v380 v381 v383), ∀ a x, ((![v383, v381] : Fin 2 → IVec S16 32) a x).toNat < S48x512.size a := fun v377 v380 v381 v383 k0_hw55 => k0_hw55.2

def k0_chk56 (v377 : IVec S16 32) (v380 : IVec S16 32) (v381 : IVec S16 32) (v386 : IVec S16 32) : Prop :=
  (∀ a x, ((![v377, v386, v380] : Fin 3 → IVec S16 32) a x).toNat < S16x48x128.size a) ∧
  (∀ a x, ((![v386, v381] : Fin 2 → IVec S16 32) a x).toNat < S48x512.size a)
theorem k0_idx63_inb : ∀ (v377 : IVec S16 32) (v380 : IVec S16 32) (v381 : IVec S16 32) (v386 : IVec S16 32) (k0_hw56 : k0_chk56 v377 v380 v381 v386), ∀ a x, ((![v377, v386, v380] : Fin 3 → IVec S16 32) a x).toNat < S16x48x128.size a := fun v377 v380 v381 v386 k0_hw56 => k0_hw56.1
theorem k0_idx64_inb : ∀ (v377 : IVec S16 32) (v380 : IVec S16 32) (v381 : IVec S16 32) (v386 : IVec S16 32) (k0_hw56 : k0_chk56 v377 v380 v381 v386), ∀ a x, ((![v386, v381] : Fin 2 → IVec S16 32) a x).toNat < S48x512.size a := fun v377 v380 v381 v386 k0_hw56 => k0_hw56.2

def k0_chk57 (v377 : IVec S16 32) (v380 : IVec S16 32) (v381 : IVec S16 32) (v389 : IVec S16 32) : Prop :=
  (∀ a x, ((![v377, v389, v380] : Fin 3 → IVec S16 32) a x).toNat < S16x48x128.size a) ∧
  (∀ a x, ((![v389, v381] : Fin 2 → IVec S16 32) a x).toNat < S48x512.size a)
theorem k0_idx65_inb : ∀ (v377 : IVec S16 32) (v380 : IVec S16 32) (v381 : IVec S16 32) (v389 : IVec S16 32) (k0_hw57 : k0_chk57 v377 v380 v381 v389), ∀ a x, ((![v377, v389, v380] : Fin 3 → IVec S16 32) a x).toNat < S16x48x128.size a := fun v377 v380 v381 v389 k0_hw57 => k0_hw57.1
theorem k0_idx66_inb : ∀ (v377 : IVec S16 32) (v380 : IVec S16 32) (v381 : IVec S16 32) (v389 : IVec S16 32) (k0_hw57 : k0_chk57 v377 v380 v381 v389), ∀ a x, ((![v389, v381] : Fin 2 → IVec S16 32) a x).toNat < S48x512.size a := fun v377 v380 v381 v389 k0_hw57 => k0_hw57.2

def k0_chk58 (v394 : IVec S16 32) (v397 : IVec S16 32) (v398 : IVec S16 32) (v400 : IVec S16 32) : Prop :=
  (∀ a x, ((![v394, v400, v397] : Fin 3 → IVec S16 32) a x).toNat < S16x48x128.size a) ∧
  (∀ a x, ((![v400, v398] : Fin 2 → IVec S16 32) a x).toNat < S48x512.size a)
theorem k0_idx67_inb : ∀ (v394 : IVec S16 32) (v397 : IVec S16 32) (v398 : IVec S16 32) (v400 : IVec S16 32) (k0_hw58 : k0_chk58 v394 v397 v398 v400), ∀ a x, ((![v394, v400, v397] : Fin 3 → IVec S16 32) a x).toNat < S16x48x128.size a := fun v394 v397 v398 v400 k0_hw58 => k0_hw58.1
theorem k0_idx68_inb : ∀ (v394 : IVec S16 32) (v397 : IVec S16 32) (v398 : IVec S16 32) (v400 : IVec S16 32) (k0_hw58 : k0_chk58 v394 v397 v398 v400), ∀ a x, ((![v400, v398] : Fin 2 → IVec S16 32) a x).toNat < S48x512.size a := fun v394 v397 v398 v400 k0_hw58 => k0_hw58.2

def k0_chk59 (v394 : IVec S16 32) (v397 : IVec S16 32) (v398 : IVec S16 32) (v403 : IVec S16 32) : Prop :=
  (∀ a x, ((![v394, v403, v397] : Fin 3 → IVec S16 32) a x).toNat < S16x48x128.size a) ∧
  (∀ a x, ((![v403, v398] : Fin 2 → IVec S16 32) a x).toNat < S48x512.size a)
theorem k0_idx69_inb : ∀ (v394 : IVec S16 32) (v397 : IVec S16 32) (v398 : IVec S16 32) (v403 : IVec S16 32) (k0_hw59 : k0_chk59 v394 v397 v398 v403), ∀ a x, ((![v394, v403, v397] : Fin 3 → IVec S16 32) a x).toNat < S16x48x128.size a := fun v394 v397 v398 v403 k0_hw59 => k0_hw59.1
theorem k0_idx70_inb : ∀ (v394 : IVec S16 32) (v397 : IVec S16 32) (v398 : IVec S16 32) (v403 : IVec S16 32) (k0_hw59 : k0_chk59 v394 v397 v398 v403), ∀ a x, ((![v403, v398] : Fin 2 → IVec S16 32) a x).toNat < S48x512.size a := fun v394 v397 v398 v403 k0_hw59 => k0_hw59.2

def k0_chk60 (v394 : IVec S16 32) (v397 : IVec S16 32) (v398 : IVec S16 32) (v406 : IVec S16 32) : Prop :=
  (∀ a x, ((![v394, v406, v397] : Fin 3 → IVec S16 32) a x).toNat < S16x48x128.size a) ∧
  (∀ a x, ((![v406, v398] : Fin 2 → IVec S16 32) a x).toNat < S48x512.size a)
theorem k0_idx71_inb : ∀ (v394 : IVec S16 32) (v397 : IVec S16 32) (v398 : IVec S16 32) (v406 : IVec S16 32) (k0_hw60 : k0_chk60 v394 v397 v398 v406), ∀ a x, ((![v394, v406, v397] : Fin 3 → IVec S16 32) a x).toNat < S16x48x128.size a := fun v394 v397 v398 v406 k0_hw60 => k0_hw60.1
theorem k0_idx72_inb : ∀ (v394 : IVec S16 32) (v397 : IVec S16 32) (v398 : IVec S16 32) (v406 : IVec S16 32) (k0_hw60 : k0_chk60 v394 v397 v398 v406), ∀ a x, ((![v406, v398] : Fin 2 → IVec S16 32) a x).toNat < S48x512.size a := fun v394 v397 v398 v406 k0_hw60 => k0_hw60.2

def k0_chk61 (v411 : IVec S16 32) (v414 : IVec S16 32) (v415 : IVec S16 32) (v417 : IVec S16 32) : Prop :=
  (∀ a x, ((![v411, v417, v414] : Fin 3 → IVec S16 32) a x).toNat < S16x48x128.size a) ∧
  (∀ a x, ((![v417, v415] : Fin 2 → IVec S16 32) a x).toNat < S48x512.size a)
theorem k0_idx73_inb : ∀ (v411 : IVec S16 32) (v414 : IVec S16 32) (v415 : IVec S16 32) (v417 : IVec S16 32) (k0_hw61 : k0_chk61 v411 v414 v415 v417), ∀ a x, ((![v411, v417, v414] : Fin 3 → IVec S16 32) a x).toNat < S16x48x128.size a := fun v411 v414 v415 v417 k0_hw61 => k0_hw61.1
theorem k0_idx74_inb : ∀ (v411 : IVec S16 32) (v414 : IVec S16 32) (v415 : IVec S16 32) (v417 : IVec S16 32) (k0_hw61 : k0_chk61 v411 v414 v415 v417), ∀ a x, ((![v417, v415] : Fin 2 → IVec S16 32) a x).toNat < S48x512.size a := fun v411 v414 v415 v417 k0_hw61 => k0_hw61.2

def k0_chk62 (v411 : IVec S16 32) (v414 : IVec S16 32) (v415 : IVec S16 32) (v420 : IVec S16 32) : Prop :=
  (∀ a x, ((![v411, v420, v414] : Fin 3 → IVec S16 32) a x).toNat < S16x48x128.size a) ∧
  (∀ a x, ((![v420, v415] : Fin 2 → IVec S16 32) a x).toNat < S48x512.size a)
theorem k0_idx75_inb : ∀ (v411 : IVec S16 32) (v414 : IVec S16 32) (v415 : IVec S16 32) (v420 : IVec S16 32) (k0_hw62 : k0_chk62 v411 v414 v415 v420), ∀ a x, ((![v411, v420, v414] : Fin 3 → IVec S16 32) a x).toNat < S16x48x128.size a := fun v411 v414 v415 v420 k0_hw62 => k0_hw62.1
theorem k0_idx76_inb : ∀ (v411 : IVec S16 32) (v414 : IVec S16 32) (v415 : IVec S16 32) (v420 : IVec S16 32) (k0_hw62 : k0_chk62 v411 v414 v415 v420), ∀ a x, ((![v420, v415] : Fin 2 → IVec S16 32) a x).toNat < S48x512.size a := fun v411 v414 v415 v420 k0_hw62 => k0_hw62.2

def k0_chk63 (v411 : IVec S16 32) (v414 : IVec S16 32) (v415 : IVec S16 32) (v423 : IVec S16 32) : Prop :=
  (∀ a x, ((![v411, v423, v414] : Fin 3 → IVec S16 32) a x).toNat < S16x48x128.size a) ∧
  (∀ a x, ((![v423, v415] : Fin 2 → IVec S16 32) a x).toNat < S48x512.size a)
theorem k0_idx77_inb : ∀ (v411 : IVec S16 32) (v414 : IVec S16 32) (v415 : IVec S16 32) (v423 : IVec S16 32) (k0_hw63 : k0_chk63 v411 v414 v415 v423), ∀ a x, ((![v411, v423, v414] : Fin 3 → IVec S16 32) a x).toNat < S16x48x128.size a := fun v411 v414 v415 v423 k0_hw63 => k0_hw63.1
theorem k0_idx78_inb : ∀ (v411 : IVec S16 32) (v414 : IVec S16 32) (v415 : IVec S16 32) (v423 : IVec S16 32) (k0_hw63 : k0_chk63 v411 v414 v415 v423), ∀ a x, ((![v423, v415] : Fin 2 → IVec S16 32) a x).toNat < S48x512.size a := fun v411 v414 v415 v423 k0_hw63 => k0_hw63.2

def k0_chk64 (v428 : IVec S16 32) (v431 : IVec S16 32) (v432 : IVec S16 32) (v434 : IVec S16 32) : Prop :=
  (∀ a x, ((![v428, v434, v431] : Fin 3 → IVec S16 32) a x).toNat < S16x48x128.size a) ∧
  (∀ a x, ((![v434, v432] : Fin 2 → IVec S16 32) a x).toNat < S48x512.size a)
theorem k0_idx79_inb : ∀ (v428 : IVec S16 32) (v431 : IVec S16 32) (v432 : IVec S16 32) (v434 : IVec S16 32) (k0_hw64 : k0_chk64 v428 v431 v432 v434), ∀ a x, ((![v428, v434, v431] : Fin 3 → IVec S16 32) a x).toNat < S16x48x128.size a := fun v428 v431 v432 v434 k0_hw64 => k0_hw64.1
theorem k0_idx80_inb : ∀ (v428 : IVec S16 32) (v431 : IVec S16 32) (v432 : IVec S16 32) (v434 : IVec S16 32) (k0_hw64 : k0_chk64 v428 v431 v432 v434), ∀ a x, ((![v434, v432] : Fin 2 → IVec S16 32) a x).toNat < S48x512.size a := fun v428 v431 v432 v434 k0_hw64 => k0_hw64.2

def k0_chk65 (v428 : IVec S16 32) (v431 : IVec S16 32) (v432 : IVec S16 32) (v437 : IVec S16 32) : Prop :=
  (∀ a x, ((![v428, v437, v431] : Fin 3 → IVec S16 32) a x).toNat < S16x48x128.size a) ∧
  (∀ a x, ((![v437, v432] : Fin 2 → IVec S16 32) a x).toNat < S48x512.size a)
theorem k0_idx81_inb : ∀ (v428 : IVec S16 32) (v431 : IVec S16 32) (v432 : IVec S16 32) (v437 : IVec S16 32) (k0_hw65 : k0_chk65 v428 v431 v432 v437), ∀ a x, ((![v428, v437, v431] : Fin 3 → IVec S16 32) a x).toNat < S16x48x128.size a := fun v428 v431 v432 v437 k0_hw65 => k0_hw65.1
theorem k0_idx82_inb : ∀ (v428 : IVec S16 32) (v431 : IVec S16 32) (v432 : IVec S16 32) (v437 : IVec S16 32) (k0_hw65 : k0_chk65 v428 v431 v432 v437), ∀ a x, ((![v437, v432] : Fin 2 → IVec S16 32) a x).toNat < S48x512.size a := fun v428 v431 v432 v437 k0_hw65 => k0_hw65.2

def k0_chk66 (v428 : IVec S16 32) (v431 : IVec S16 32) (v432 : IVec S16 32) (v440 : IVec S16 32) : Prop :=
  (∀ a x, ((![v428, v440, v431] : Fin 3 → IVec S16 32) a x).toNat < S16x48x128.size a) ∧
  (∀ a x, ((![v440, v432] : Fin 2 → IVec S16 32) a x).toNat < S48x512.size a)
theorem k0_idx83_inb : ∀ (v428 : IVec S16 32) (v431 : IVec S16 32) (v432 : IVec S16 32) (v440 : IVec S16 32) (k0_hw66 : k0_chk66 v428 v431 v432 v440), ∀ a x, ((![v428, v440, v431] : Fin 3 → IVec S16 32) a x).toNat < S16x48x128.size a := fun v428 v431 v432 v440 k0_hw66 => k0_hw66.1
theorem k0_idx84_inb : ∀ (v428 : IVec S16 32) (v431 : IVec S16 32) (v432 : IVec S16 32) (v440 : IVec S16 32) (k0_hw66 : k0_chk66 v428 v431 v432 v440), ∀ a x, ((![v440, v432] : Fin 2 → IVec S16 32) a x).toNat < S48x512.size a := fun v428 v431 v432 v440 k0_hw66 => k0_hw66.2

def k0_chk67 (v445 : IVec S16 32) (v448 : IVec S16 32) (v449 : IVec S16 32) (v451 : IVec S16 32) : Prop :=
  (∀ a x, ((![v445, v451, v448] : Fin 3 → IVec S16 32) a x).toNat < S16x48x128.size a) ∧
  (∀ a x, ((![v451, v449] : Fin 2 → IVec S16 32) a x).toNat < S48x512.size a)
theorem k0_idx85_inb : ∀ (v445 : IVec S16 32) (v448 : IVec S16 32) (v449 : IVec S16 32) (v451 : IVec S16 32) (k0_hw67 : k0_chk67 v445 v448 v449 v451), ∀ a x, ((![v445, v451, v448] : Fin 3 → IVec S16 32) a x).toNat < S16x48x128.size a := fun v445 v448 v449 v451 k0_hw67 => k0_hw67.1
theorem k0_idx86_inb : ∀ (v445 : IVec S16 32) (v448 : IVec S16 32) (v449 : IVec S16 32) (v451 : IVec S16 32) (k0_hw67 : k0_chk67 v445 v448 v449 v451), ∀ a x, ((![v451, v449] : Fin 2 → IVec S16 32) a x).toNat < S48x512.size a := fun v445 v448 v449 v451 k0_hw67 => k0_hw67.2

def k0_chk68 (v445 : IVec S16 32) (v448 : IVec S16 32) (v449 : IVec S16 32) (v454 : IVec S16 32) : Prop :=
  (∀ a x, ((![v445, v454, v448] : Fin 3 → IVec S16 32) a x).toNat < S16x48x128.size a) ∧
  (∀ a x, ((![v454, v449] : Fin 2 → IVec S16 32) a x).toNat < S48x512.size a)
theorem k0_idx87_inb : ∀ (v445 : IVec S16 32) (v448 : IVec S16 32) (v449 : IVec S16 32) (v454 : IVec S16 32) (k0_hw68 : k0_chk68 v445 v448 v449 v454), ∀ a x, ((![v445, v454, v448] : Fin 3 → IVec S16 32) a x).toNat < S16x48x128.size a := fun v445 v448 v449 v454 k0_hw68 => k0_hw68.1
theorem k0_idx88_inb : ∀ (v445 : IVec S16 32) (v448 : IVec S16 32) (v449 : IVec S16 32) (v454 : IVec S16 32) (k0_hw68 : k0_chk68 v445 v448 v449 v454), ∀ a x, ((![v454, v449] : Fin 2 → IVec S16 32) a x).toNat < S48x512.size a := fun v445 v448 v449 v454 k0_hw68 => k0_hw68.2

def k0_chk69 (v445 : IVec S16 32) (v448 : IVec S16 32) (v449 : IVec S16 32) (v457 : IVec S16 32) : Prop :=
  (∀ a x, ((![v445, v457, v448] : Fin 3 → IVec S16 32) a x).toNat < S16x48x128.size a) ∧
  (∀ a x, ((![v457, v449] : Fin 2 → IVec S16 32) a x).toNat < S48x512.size a)
theorem k0_idx89_inb : ∀ (v445 : IVec S16 32) (v448 : IVec S16 32) (v449 : IVec S16 32) (v457 : IVec S16 32) (k0_hw69 : k0_chk69 v445 v448 v449 v457), ∀ a x, ((![v445, v457, v448] : Fin 3 → IVec S16 32) a x).toNat < S16x48x128.size a := fun v445 v448 v449 v457 k0_hw69 => k0_hw69.1
theorem k0_idx90_inb : ∀ (v445 : IVec S16 32) (v448 : IVec S16 32) (v449 : IVec S16 32) (v457 : IVec S16 32) (k0_hw69 : k0_chk69 v445 v448 v449 v457), ∀ a x, ((![v457, v449] : Fin 2 → IVec S16 32) a x).toNat < S48x512.size a := fun v445 v448 v449 v457 k0_hw69 => k0_hw69.2

def k0_chk70 (v462 : IVec S16 32) (v465 : IVec S16 32) (v466 : IVec S16 32) (v468 : IVec S16 32) : Prop :=
  (∀ a x, ((![v462, v468, v465] : Fin 3 → IVec S16 32) a x).toNat < S16x48x128.size a) ∧
  (∀ a x, ((![v468, v466] : Fin 2 → IVec S16 32) a x).toNat < S48x512.size a)
theorem k0_idx91_inb : ∀ (v462 : IVec S16 32) (v465 : IVec S16 32) (v466 : IVec S16 32) (v468 : IVec S16 32) (k0_hw70 : k0_chk70 v462 v465 v466 v468), ∀ a x, ((![v462, v468, v465] : Fin 3 → IVec S16 32) a x).toNat < S16x48x128.size a := fun v462 v465 v466 v468 k0_hw70 => k0_hw70.1
theorem k0_idx92_inb : ∀ (v462 : IVec S16 32) (v465 : IVec S16 32) (v466 : IVec S16 32) (v468 : IVec S16 32) (k0_hw70 : k0_chk70 v462 v465 v466 v468), ∀ a x, ((![v468, v466] : Fin 2 → IVec S16 32) a x).toNat < S48x512.size a := fun v462 v465 v466 v468 k0_hw70 => k0_hw70.2

def k0_chk71 (v462 : IVec S16 32) (v465 : IVec S16 32) (v466 : IVec S16 32) (v471 : IVec S16 32) : Prop :=
  (∀ a x, ((![v462, v471, v465] : Fin 3 → IVec S16 32) a x).toNat < S16x48x128.size a) ∧
  (∀ a x, ((![v471, v466] : Fin 2 → IVec S16 32) a x).toNat < S48x512.size a)
theorem k0_idx93_inb : ∀ (v462 : IVec S16 32) (v465 : IVec S16 32) (v466 : IVec S16 32) (v471 : IVec S16 32) (k0_hw71 : k0_chk71 v462 v465 v466 v471), ∀ a x, ((![v462, v471, v465] : Fin 3 → IVec S16 32) a x).toNat < S16x48x128.size a := fun v462 v465 v466 v471 k0_hw71 => k0_hw71.1
theorem k0_idx94_inb : ∀ (v462 : IVec S16 32) (v465 : IVec S16 32) (v466 : IVec S16 32) (v471 : IVec S16 32) (k0_hw71 : k0_chk71 v462 v465 v466 v471), ∀ a x, ((![v471, v466] : Fin 2 → IVec S16 32) a x).toNat < S48x512.size a := fun v462 v465 v466 v471 k0_hw71 => k0_hw71.2

def k0_chk72 (v462 : IVec S16 32) (v465 : IVec S16 32) (v466 : IVec S16 32) (v474 : IVec S16 32) : Prop :=
  (∀ a x, ((![v462, v474, v465] : Fin 3 → IVec S16 32) a x).toNat < S16x48x128.size a) ∧
  (∀ a x, ((![v474, v466] : Fin 2 → IVec S16 32) a x).toNat < S48x512.size a)
theorem k0_idx95_inb : ∀ (v462 : IVec S16 32) (v465 : IVec S16 32) (v466 : IVec S16 32) (v474 : IVec S16 32) (k0_hw72 : k0_chk72 v462 v465 v466 v474), ∀ a x, ((![v462, v474, v465] : Fin 3 → IVec S16 32) a x).toNat < S16x48x128.size a := fun v462 v465 v466 v474 k0_hw72 => k0_hw72.1
theorem k0_idx96_inb : ∀ (v462 : IVec S16 32) (v465 : IVec S16 32) (v466 : IVec S16 32) (v474 : IVec S16 32) (k0_hw72 : k0_chk72 v462 v465 v466 v474), ∀ a x, ((![v474, v466] : Fin 2 → IVec S16 32) a x).toNat < S48x512.size a := fun v462 v465 v466 v474 k0_hw72 => k0_hw72.2
def k0_cond2 (k0_t1 : Fin k0_t1_loop.trips) : BitVec 1 :=
  let c0_i32_128 : BitVec 32 := 0#32
  let c1_i32_129 : BitVec 32 := 1#32
  let arg11 : BitVec 32 := Scf.iv c0_i32_128 c1_i32_129 k0_t1
  let c31_i32_269 : BitVec 32 := 31#32
  let v476 : BitVec 1 := Scalar.cmpi .slt arg11 c31_i32_269
  let v477 : BitVec 32 := Scalar.extui v476
  let c0_i32_270 : BitVec 32 := 0#32
  let v478 : BitVec 1 := Scalar.cmpi .ne v477 c0_i32_270
  v478

def k0_off28 (k0_t1 : Fin k0_t1_loop.trips) : Fin 1 → Nat :=
  let c0_i32_128 : BitVec 32 := 0#32
  let c1_i32_129 : BitVec 32 := 1#32
  let arg11 : BitVec 32 := Scf.iv c0_i32_128 c1_i32_129 k0_t1
  let c1_i32_271 : BitVec 32 := 1#32
  let v479 : BitVec 32 := Scalar.addi arg11 c1_i32_271
  let c16_i32_272 : BitVec 32 := 16#32
  let v480 : BitVec 32 := Scalar.muli v479 c16_i32_272
  let v481 : Index := Scalar.indexCast v480
  ![v481.toNat]
def k0_mult25 (v484 : BitVec 32) : BitVec 32 :=
  let c7_i32_273 : BitVec 32 := 7#32
  let v485 : BitVec 32 := Scalar.shrsi v484 c7_i32_273
  let c128_i32_274 : BitVec 32 := 128#32
  let v486 : BitVec 32 := Scalar.muli v485 c128_i32_274
  v486

def k0_off29 (v484 : BitVec 32) : Fin 2 → Nat :=
  let c0_i32_278 : BitVec 32 := 0#32
  let c7_i32_273 : BitVec 32 := 7#32
  let v485 : BitVec 32 := Scalar.shrsi v484 c7_i32_273
  let c128_i32_274 : BitVec 32 := 128#32
  let v486 : BitVec 32 := Scalar.muli v485 c128_i32_274
  let v487 : BitVec 32 := v486
  ![0, v487.toNat]

def k0_chk73 (k0_t1 : Fin k0_t1_loop.trips) (v484 : BitVec 32) : Prop :=
  (∀ (k0_h2 : k0_cond2 k0_t1 = 1#1), 128 ∣ (k0_mult25 v484).toNat) ∧
  (∀ (k0_h2 : k0_cond2 k0_t1 = 1#1), ∀ a, (k0_off29 v484) a + S48x128.size a ≤ S48x1000064.size a)
theorem k0_mult25_dvd : ∀ (k0_t1 : Fin k0_t1_loop.trips) (v484 : BitVec 32) (k0_hw73 : k0_chk73 k0_t1 v484), ∀ (k0_h2 : k0_cond2 k0_t1 = 1#1), 128 ∣ (k0_mult25 v484).toNat := fun k0_t1 v484 k0_hw73 k0_h2 => k0_hw73.1 k0_h2
theorem k0_off29_inb : ∀ (k0_t1 : Fin k0_t1_loop.trips) (v484 : BitVec 32) (k0_hw73 : k0_chk73 k0_t1 v484), ∀ (k0_h2 : k0_cond2 k0_t1 = 1#1), ∀ a, (k0_off29 v484) a + S48x128.size a ≤ S48x1000064.size a := fun k0_t1 v484 k0_hw73 k0_h2 => k0_hw73.2 k0_h2

def k0_mult26 (v495 : BitVec 32) : BitVec 32 :=
  let c7_i32_282 : BitVec 32 := 7#32
  let v496 : BitVec 32 := Scalar.shrsi v495 c7_i32_282
  let c128_i32_283 : BitVec 32 := 128#32
  let v497 : BitVec 32 := Scalar.muli v496 c128_i32_283
  v497

def k0_off30 (v495 : BitVec 32) : Fin 2 → Nat :=
  let c0_i32_287 : BitVec 32 := 0#32
  let c7_i32_282 : BitVec 32 := 7#32
  let v496 : BitVec 32 := Scalar.shrsi v495 c7_i32_282
  let c128_i32_283 : BitVec 32 := 128#32
  let v497 : BitVec 32 := Scalar.muli v496 c128_i32_283
  let v498 : BitVec 32 := v497
  ![0, v498.toNat]

def k0_chk74 (k0_t1 : Fin k0_t1_loop.trips) (v495 : BitVec 32) : Prop :=
  (∀ (k0_h2 : k0_cond2 k0_t1 = 1#1), 128 ∣ (k0_mult26 v495).toNat) ∧
  (∀ (k0_h2 : k0_cond2 k0_t1 = 1#1), ∀ a, (k0_off30 v495) a + S48x128.size a ≤ S48x1000064.size a)
theorem k0_mult26_dvd : ∀ (k0_t1 : Fin k0_t1_loop.trips) (v495 : BitVec 32) (k0_hw74 : k0_chk74 k0_t1 v495), ∀ (k0_h2 : k0_cond2 k0_t1 = 1#1), 128 ∣ (k0_mult26 v495).toNat := fun k0_t1 v495 k0_hw74 k0_h2 => k0_hw74.1 k0_h2
theorem k0_off30_inb : ∀ (k0_t1 : Fin k0_t1_loop.trips) (v495 : BitVec 32) (k0_hw74 : k0_chk74 k0_t1 v495), ∀ (k0_h2 : k0_cond2 k0_t1 = 1#1), ∀ a, (k0_off30 v495) a + S48x128.size a ≤ S48x1000064.size a := fun k0_t1 v495 k0_hw74 k0_h2 => k0_hw74.2 k0_h2

def k0_mult27 (v506 : BitVec 32) : BitVec 32 :=
  let c7_i32_291 : BitVec 32 := 7#32
  let v507 : BitVec 32 := Scalar.shrsi v506 c7_i32_291
  let c128_i32_292 : BitVec 32 := 128#32
  let v508 : BitVec 32 := Scalar.muli v507 c128_i32_292
  v508

def k0_off31 (v506 : BitVec 32) : Fin 2 → Nat :=
  let c0_i32_296 : BitVec 32 := 0#32
  let c7_i32_291 : BitVec 32 := 7#32
  let v507 : BitVec 32 := Scalar.shrsi v506 c7_i32_291
  let c128_i32_292 : BitVec 32 := 128#32
  let v508 : BitVec 32 := Scalar.muli v507 c128_i32_292
  let v509 : BitVec 32 := v508
  ![0, v509.toNat]

def k0_chk75 (k0_t1 : Fin k0_t1_loop.trips) (v506 : BitVec 32) : Prop :=
  (∀ (k0_h2 : k0_cond2 k0_t1 = 1#1), 128 ∣ (k0_mult27 v506).toNat) ∧
  (∀ (k0_h2 : k0_cond2 k0_t1 = 1#1), ∀ a, (k0_off31 v506) a + S48x128.size a ≤ S48x1000064.size a)
theorem k0_mult27_dvd : ∀ (k0_t1 : Fin k0_t1_loop.trips) (v506 : BitVec 32) (k0_hw75 : k0_chk75 k0_t1 v506), ∀ (k0_h2 : k0_cond2 k0_t1 = 1#1), 128 ∣ (k0_mult27 v506).toNat := fun k0_t1 v506 k0_hw75 k0_h2 => k0_hw75.1 k0_h2
theorem k0_off31_inb : ∀ (k0_t1 : Fin k0_t1_loop.trips) (v506 : BitVec 32) (k0_hw75 : k0_chk75 k0_t1 v506), ∀ (k0_h2 : k0_cond2 k0_t1 = 1#1), ∀ a, (k0_off31 v506) a + S48x128.size a ≤ S48x1000064.size a := fun k0_t1 v506 k0_hw75 k0_h2 => k0_hw75.2 k0_h2

def k0_mult28 (v517 : BitVec 32) : BitVec 32 :=
  let c7_i32_300 : BitVec 32 := 7#32
  let v518 : BitVec 32 := Scalar.shrsi v517 c7_i32_300
  let c128_i32_301 : BitVec 32 := 128#32
  let v519 : BitVec 32 := Scalar.muli v518 c128_i32_301
  v519

def k0_off32 (v517 : BitVec 32) : Fin 2 → Nat :=
  let c0_i32_305 : BitVec 32 := 0#32
  let c7_i32_300 : BitVec 32 := 7#32
  let v518 : BitVec 32 := Scalar.shrsi v517 c7_i32_300
  let c128_i32_301 : BitVec 32 := 128#32
  let v519 : BitVec 32 := Scalar.muli v518 c128_i32_301
  let v520 : BitVec 32 := v519
  ![0, v520.toNat]

def k0_chk76 (k0_t1 : Fin k0_t1_loop.trips) (v517 : BitVec 32) : Prop :=
  (∀ (k0_h2 : k0_cond2 k0_t1 = 1#1), 128 ∣ (k0_mult28 v517).toNat) ∧
  (∀ (k0_h2 : k0_cond2 k0_t1 = 1#1), ∀ a, (k0_off32 v517) a + S48x128.size a ≤ S48x1000064.size a)
theorem k0_mult28_dvd : ∀ (k0_t1 : Fin k0_t1_loop.trips) (v517 : BitVec 32) (k0_hw76 : k0_chk76 k0_t1 v517), ∀ (k0_h2 : k0_cond2 k0_t1 = 1#1), 128 ∣ (k0_mult28 v517).toNat := fun k0_t1 v517 k0_hw76 k0_h2 => k0_hw76.1 k0_h2
theorem k0_off32_inb : ∀ (k0_t1 : Fin k0_t1_loop.trips) (v517 : BitVec 32) (k0_hw76 : k0_chk76 k0_t1 v517), ∀ (k0_h2 : k0_cond2 k0_t1 = 1#1), ∀ a, (k0_off32 v517) a + S48x128.size a ≤ S48x1000064.size a := fun k0_t1 v517 k0_hw76 k0_h2 => k0_hw76.2 k0_h2

def k0_mult29 (v528 : BitVec 32) : BitVec 32 :=
  let c7_i32_309 : BitVec 32 := 7#32
  let v529 : BitVec 32 := Scalar.shrsi v528 c7_i32_309
  let c128_i32_310 : BitVec 32 := 128#32
  let v530 : BitVec 32 := Scalar.muli v529 c128_i32_310
  v530

def k0_off33 (v528 : BitVec 32) : Fin 2 → Nat :=
  let c0_i32_314 : BitVec 32 := 0#32
  let c7_i32_309 : BitVec 32 := 7#32
  let v529 : BitVec 32 := Scalar.shrsi v528 c7_i32_309
  let c128_i32_310 : BitVec 32 := 128#32
  let v530 : BitVec 32 := Scalar.muli v529 c128_i32_310
  let v531 : BitVec 32 := v530
  ![0, v531.toNat]

def k0_chk77 (k0_t1 : Fin k0_t1_loop.trips) (v528 : BitVec 32) : Prop :=
  (∀ (k0_h2 : k0_cond2 k0_t1 = 1#1), 128 ∣ (k0_mult29 v528).toNat) ∧
  (∀ (k0_h2 : k0_cond2 k0_t1 = 1#1), ∀ a, (k0_off33 v528) a + S48x128.size a ≤ S48x1000064.size a)
theorem k0_mult29_dvd : ∀ (k0_t1 : Fin k0_t1_loop.trips) (v528 : BitVec 32) (k0_hw77 : k0_chk77 k0_t1 v528), ∀ (k0_h2 : k0_cond2 k0_t1 = 1#1), 128 ∣ (k0_mult29 v528).toNat := fun k0_t1 v528 k0_hw77 k0_h2 => k0_hw77.1 k0_h2
theorem k0_off33_inb : ∀ (k0_t1 : Fin k0_t1_loop.trips) (v528 : BitVec 32) (k0_hw77 : k0_chk77 k0_t1 v528), ∀ (k0_h2 : k0_cond2 k0_t1 = 1#1), ∀ a, (k0_off33 v528) a + S48x128.size a ≤ S48x1000064.size a := fun k0_t1 v528 k0_hw77 k0_h2 => k0_hw77.2 k0_h2

def k0_mult30 (v539 : BitVec 32) : BitVec 32 :=
  let c7_i32_318 : BitVec 32 := 7#32
  let v540 : BitVec 32 := Scalar.shrsi v539 c7_i32_318
  let c128_i32_319 : BitVec 32 := 128#32
  let v541 : BitVec 32 := Scalar.muli v540 c128_i32_319
  v541

def k0_off34 (v539 : BitVec 32) : Fin 2 → Nat :=
  let c0_i32_323 : BitVec 32 := 0#32
  let c7_i32_318 : BitVec 32 := 7#32
  let v540 : BitVec 32 := Scalar.shrsi v539 c7_i32_318
  let c128_i32_319 : BitVec 32 := 128#32
  let v541 : BitVec 32 := Scalar.muli v540 c128_i32_319
  let v542 : BitVec 32 := v541
  ![0, v542.toNat]

def k0_chk78 (k0_t1 : Fin k0_t1_loop.trips) (v539 : BitVec 32) : Prop :=
  (∀ (k0_h2 : k0_cond2 k0_t1 = 1#1), 128 ∣ (k0_mult30 v539).toNat) ∧
  (∀ (k0_h2 : k0_cond2 k0_t1 = 1#1), ∀ a, (k0_off34 v539) a + S48x128.size a ≤ S48x1000064.size a)
theorem k0_mult30_dvd : ∀ (k0_t1 : Fin k0_t1_loop.trips) (v539 : BitVec 32) (k0_hw78 : k0_chk78 k0_t1 v539), ∀ (k0_h2 : k0_cond2 k0_t1 = 1#1), 128 ∣ (k0_mult30 v539).toNat := fun k0_t1 v539 k0_hw78 k0_h2 => k0_hw78.1 k0_h2
theorem k0_off34_inb : ∀ (k0_t1 : Fin k0_t1_loop.trips) (v539 : BitVec 32) (k0_hw78 : k0_chk78 k0_t1 v539), ∀ (k0_h2 : k0_cond2 k0_t1 = 1#1), ∀ a, (k0_off34 v539) a + S48x128.size a ≤ S48x1000064.size a := fun k0_t1 v539 k0_hw78 k0_h2 => k0_hw78.2 k0_h2

def k0_mult31 (v550 : BitVec 32) : BitVec 32 :=
  let c7_i32_327 : BitVec 32 := 7#32
  let v551 : BitVec 32 := Scalar.shrsi v550 c7_i32_327
  let c128_i32_328 : BitVec 32 := 128#32
  let v552 : BitVec 32 := Scalar.muli v551 c128_i32_328
  v552

def k0_off35 (v550 : BitVec 32) : Fin 2 → Nat :=
  let c0_i32_332 : BitVec 32 := 0#32
  let c7_i32_327 : BitVec 32 := 7#32
  let v551 : BitVec 32 := Scalar.shrsi v550 c7_i32_327
  let c128_i32_328 : BitVec 32 := 128#32
  let v552 : BitVec 32 := Scalar.muli v551 c128_i32_328
  let v553 : BitVec 32 := v552
  ![0, v553.toNat]

def k0_chk79 (k0_t1 : Fin k0_t1_loop.trips) (v550 : BitVec 32) : Prop :=
  (∀ (k0_h2 : k0_cond2 k0_t1 = 1#1), 128 ∣ (k0_mult31 v550).toNat) ∧
  (∀ (k0_h2 : k0_cond2 k0_t1 = 1#1), ∀ a, (k0_off35 v550) a + S48x128.size a ≤ S48x1000064.size a)
theorem k0_mult31_dvd : ∀ (k0_t1 : Fin k0_t1_loop.trips) (v550 : BitVec 32) (k0_hw79 : k0_chk79 k0_t1 v550), ∀ (k0_h2 : k0_cond2 k0_t1 = 1#1), 128 ∣ (k0_mult31 v550).toNat := fun k0_t1 v550 k0_hw79 k0_h2 => k0_hw79.1 k0_h2
theorem k0_off35_inb : ∀ (k0_t1 : Fin k0_t1_loop.trips) (v550 : BitVec 32) (k0_hw79 : k0_chk79 k0_t1 v550), ∀ (k0_h2 : k0_cond2 k0_t1 = 1#1), ∀ a, (k0_off35 v550) a + S48x128.size a ≤ S48x1000064.size a := fun k0_t1 v550 k0_hw79 k0_h2 => k0_hw79.2 k0_h2

def k0_mult32 (v561 : BitVec 32) : BitVec 32 :=
  let c7_i32_336 : BitVec 32 := 7#32
  let v562 : BitVec 32 := Scalar.shrsi v561 c7_i32_336
  let c128_i32_337 : BitVec 32 := 128#32
  let v563 : BitVec 32 := Scalar.muli v562 c128_i32_337
  v563

def k0_off36 (v561 : BitVec 32) : Fin 2 → Nat :=
  let c0_i32_341 : BitVec 32 := 0#32
  let c7_i32_336 : BitVec 32 := 7#32
  let v562 : BitVec 32 := Scalar.shrsi v561 c7_i32_336
  let c128_i32_337 : BitVec 32 := 128#32
  let v563 : BitVec 32 := Scalar.muli v562 c128_i32_337
  let v564 : BitVec 32 := v563
  ![0, v564.toNat]

def k0_chk80 (k0_t1 : Fin k0_t1_loop.trips) (v561 : BitVec 32) : Prop :=
  (∀ (k0_h2 : k0_cond2 k0_t1 = 1#1), 128 ∣ (k0_mult32 v561).toNat) ∧
  (∀ (k0_h2 : k0_cond2 k0_t1 = 1#1), ∀ a, (k0_off36 v561) a + S48x128.size a ≤ S48x1000064.size a)
theorem k0_mult32_dvd : ∀ (k0_t1 : Fin k0_t1_loop.trips) (v561 : BitVec 32) (k0_hw80 : k0_chk80 k0_t1 v561), ∀ (k0_h2 : k0_cond2 k0_t1 = 1#1), 128 ∣ (k0_mult32 v561).toNat := fun k0_t1 v561 k0_hw80 k0_h2 => k0_hw80.1 k0_h2
theorem k0_off36_inb : ∀ (k0_t1 : Fin k0_t1_loop.trips) (v561 : BitVec 32) (k0_hw80 : k0_chk80 k0_t1 v561), ∀ (k0_h2 : k0_cond2 k0_t1 = 1#1), ∀ a, (k0_off36 v561) a + S48x128.size a ≤ S48x1000064.size a := fun k0_t1 v561 k0_hw80 k0_h2 => k0_hw80.2 k0_h2

def k0_off37 (i : grid0.Coords) : Fin 2 → Nat :=
  let c0_i32_131 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16x3 : Shape := ⟨3, ![1000000, 16, 3]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16x3 : Shape := ⟨3, ![16384, 16, 3]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x16x3, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x16x3, .f32⟩
  | .hbm, ⟨21, _⟩ => ⟨S16384x16x3, .i1⟩
  | .hbm, ⟨22, _⟩ => ⟨S_, .f32⟩
  | .hbm, ⟨23, _⟩ => ⟨S16384x16x3, .f32⟩
  | .hbm, ⟨24, _⟩ => ⟨S16384x16x3, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Slab.lean ====
/-
  A scratch buffer that one thread reads whole while copies into other parts of it are still in flight.

  Half of the buffer's share stands in an invariant over the whole buffer; the other half is dealt out part by part: the
  thread holds the halves of the parts at rest, a copy in flight holds the half of the part it writes. A copy's write opens
  the invariant, joins the two halves of its part, and puts the rewritten half back. The thread's load opens the invariant
  too: it reads every element, and learns that what it read agrees with its own half on the parts at rest. At the end the
  thread, holding every token, takes the half out of the invariant for good.
-/
module

public import Idealize.ShloMosaic.Lib.Batch

@[expose] public section

noncomputable section

namespace Cert.Proof.Slab

open Idealize.ShloMosaic Idealize.ShloMosaic.Transfers
open Idealize.SL
open Idealize.SL.BI (sProp Storable bigSep bigSep_insert)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))

/-- The invariant: half the share of the whole buffer at whatever it holds, or (closed) every token. -/
def body {n : ℕ} (ℓ : Loc nD τ sig) (γ : Fin n → ℕ) : sProp 𝕄 :=
  iprop((∃ f, ℓ ↦[Finset.univ]{fullShare.left} f) ∨ bigSep Finset.univ fun t => tok EC (γ t))

instance body_storable [EC.LandsIn (upEmb : UEmb _ 𝕄)] {n : ℕ} (ℓ : Loc nD τ sig) (γ : Fin n → ℕ) :
    Storable (upEmb : UEmb _ 𝕄) (body EC (Val := Val) ℓ γ) := by
  unfold body tok count; infer_instance

/-- A token in hand refutes the closed case. -/
theorem closed_false {n : ℕ} {γ : Fin n → ℕ} (t : Fin n) :
    iprop((bigSep Finset.univ fun t => tok EC (γ t)) ∗ tok EC (γ t)) ⊢ (False : sProp 𝕄) := by
  iintro ⟨Hall, Ht⟩
  ihave H := (show (bigSep Finset.univ fun t => tok EC (γ t)) ⊢ iprop(tok EC (γ t) ∗ bigSep (Finset.univ.erase t) fun t => tok EC (γ t))
    from Entails.of_eq (BI.bigSep_erase (Φ := fun t => tok EC (γ t)) (Finset.mem_univ t))) $$ Hall
  icases H with ⟨H, -⟩
  iapply (tok_tok_false EC (γ t))
  isplitl [H] <;> iassumption

variable [Preorder Lvl]

/-- Setting the invariant up: the buffer's share in two halves, one into the invariant, with a fresh family of tokens. -/
theorem setup [Infinite Name] [EC.LandsIn (upEmb : UEmb _ 𝕄)] (n : ℕ) {ℓ : Loc nD τ sig} {f : Buf Val ℓ} {E : Set Name} :
    (ℓ ↦[Finset.univ]{fullShare} f : sProp 𝕄)
      ⊢ |={E}=> iprop(∃ (γ : Fin n → ℕ) (κ : Name), inv κ (body EC (Val := Val) ℓ γ) ∗ (bigSep Finset.univ fun t => tok EC (γ t))
          ∗ ℓ ↦[Finset.univ]{fullShare.right} f) := by
  iintro H
  ihave H' := (pointsTo_share (PosShare.mem_left_op_right fullShare)).1 $$ H
  icases H' with ⟨Hl, Hr⟩
  imod (counts_alloc EC (Nm := Fin n)) $$ [] with ⟨%γ, %γ₀, -, Hc, -⟩; · iempintro
  imod (inv_alloc (P := body EC (Val := Val) ℓ γ) (E := E)) $$ [Hl] with ⟨%κ, Hinv⟩
  · unfold body; ileft; iexists f; iexact Hl
  imodintro
  iexists γ, κ
  isplitl [Hinv]; · iexact Hinv
  isplitl [Hc]; · iexact Hc
  iexact Hr

/-- Taking it down: every token buys the half share back. -/
theorem takedown [EC.LandsIn (upEmb : UEmb _ 𝕄)] {n : ℕ} (t₀ : Fin n) {ℓ : Loc nD τ sig} {γ : Fin n → ℕ} {κ : Name} :
    iprop(inv κ (body EC (Val := Val) ℓ γ) ∗ bigSep Finset.univ fun t => tok EC (γ t))
      ⊢ (|={Set.univ}=> iprop(∃ f, ℓ ↦[Finset.univ]{fullShare.left} f) : sProp 𝕄) := by
  iintro ⟨Hinv, Hall⟩
  imod (inv_acc (Set.mem_univ κ)) $$ Hinv with ⟨Hb, Hclose⟩
  unfold body
  icases Hb with (Hf | Hcl)
  · ihave Hc := Hclose $$ [Hall]
    · iright; iexact Hall
    imod Hc
    imodintro
    iexact Hf
  · iexfalso
    ihave H := (show (bigSep Finset.univ fun t => tok EC (γ t)) ⊢ iprop(tok EC (γ t₀) ∗ bigSep (Finset.univ.erase t₀) fun t => tok EC (γ t))
      from Entails.of_eq (BI.bigSep_erase (Φ := fun t => tok EC (γ t)) (Finset.mem_univ t₀))) $$ Hall
    icases H with ⟨Ht, -⟩
    iapply (closed_false EC t₀)
    isplitl [Hcl] <;> iassumption

/-- One chunk of a copy's write into the elements `S`: both halves of `S` rewritten. -/
theorem write_step [EC.LandsIn (upEmb : UEmb _ 𝕄)] {c : Thread nD τ} {sp : Space} {s : Shape} {e : EltTy} {v : View sig c.2.kind sp s e}
    {w : s.Idx → Val e} {S : Finset (Idx (v.loc c))} (hS : v.set ⊆ S) {n : ℕ} {γ : Fin n → ℕ} {κ : Name} (t : Fin n)
    (fd : Buf Val (v.loc c)) (M M' : Finset s.Idx) :
    iprop(inv κ (body EC (Val := Val) (v.loc c) γ) ∗ tok EC (γ t) ∗ v.loc c ↦[S]{fullShare.right} (v.write Val fd w M))
      ⊢ atomically frame Set.univ (storeSpec c v w M')
          (fun _ => iprop(tok EC (γ t) ∗ v.loc c ↦[S]{fullShare.right} (v.write Val fd w (M ∪ M')))) := by
  iintro ⟨Hinv, Ht, Hr⟩
  imod (inv_acc (Set.mem_univ κ)) $$ Hinv with ⟨Hb, Hclose⟩
  unfold body
  icases Hb with (⟨%f, Hf⟩ | Hcl)
  · imodintro
    ihave Hf' := (pointsTo_split_subset (Finset.subset_univ S)).1 $$ Hf
    icases Hf' with ⟨Hl, Hrest⟩
    ihave %hag := (pointsTo_agree (ℓ := v.loc c) (I := S) (J := S)) $$ [Hl Hr]
    · isplitl [Hl] <;> iassumption
    ihave Hl' := (Entails.of_eq (pointsTo_congr (ℓ := v.loc c) (I := S) (q := fullShare.left)
      (fun i hi => (hag i (Finset.mem_inter.mpr ⟨hi, hi⟩)).1))) $$ Hl
    ihave Hfull := (pointsTo_share (PosShare.mem_left_op_right fullShare)).2 $$ [Hl' Hr]
    · isplitl [Hl'] <;> iassumption
    rw [storeSpec_apply]
    iexists S, (v.write Val fd w M)
    isplitl [Hfull]; · iexact Hfull
    isplitr; · ipureintro; exact fun i hi => hS (v.setOn_subset_set _ hi)
    rw [View.write_write_union]
    iintro Hfull
    ihave H := (pointsTo_share (PosShare.mem_left_op_right fullShare)).1 $$ Hfull
    icases H with ⟨Hl, Hr⟩
    ihave Hf := (pointsTo_join_subset (Finset.subset_univ S)) $$ [Hl Hrest]
    · isplitl [Hl] <;> iassumption
    ihave Hc := Hclose $$ [Hf]
    · ileft; iexists _; iexact Hf
    imod Hc
    imodintro
    isplitl [Ht] <;> iassumption
  · iexfalso; iapply (closed_false EC t); isplitl [Hcl] <;> iassumption

/-- The write update a copy into the elements `S` hands the machine. -/
theorem writeUpdate_intro [EC.LandsIn (upEmb : UEmb _ 𝕄)] {c : Thread nD τ} {sp : Space} {s : Shape} {e : EltTy} {v : View sig c.2.kind sp s e}
    {w : s.Idx → Val e} {S : Finset (Idx (v.loc c))} (hS : v.set ⊆ S) {n : ℕ} {γ : Fin n → ℕ} {κ : Name} (t : Fin n)
    (fd : Buf Val (v.loc c)) :
    iprop(inv κ (body EC (Val := Val) (v.loc c) γ) ∗ tok EC (γ t) ∗ v.loc c ↦[S]{fullShare.right} fd)
      ⊢ (writeUpdate c v w iprop(tok EC (γ t) ∗ v.loc c ↦[S]{fullShare.right} (v.write Val fd w Finset.univ)) : sProp 𝕄) := by
  rw [writeUpdate, writeUpdateFrom_def]
  iintro ⟨#Hinv, Ht, Hr⟩
  iexists (fun M => iprop(tok EC (γ t) ∗ v.loc c ↦[S]{fullShare.right} (v.write Val fd w M)))
  simp only [View.write_empty]
  isplitl [Ht Hr]; · isplitl [Ht] <;> iassumption
  isplitr
  · rw [writeSteps_def]
    imodintro
    iintro %M %M' H
    iapply (write_step EC hS t fd M M')
    isplitr; · iexact Hinv
    iexact H
  · iintro H; iexact H

variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A load of any elements of the buffer, some of them being written meanwhile: the thread, holding half of the elements
    `T`, continues at what it read of some contents that agree with its own on `T`. -/
theorem wp_loadShared [EC.LandsIn (upEmb : UEmb _ 𝕄)] {cs : CoreSpace} {m : Memref sig c.2.kind cs s e} {r : LoadRect s} {hl : m.view.LoadsAt r}
    {k : (r.shape.Idx → Val e) → Prog (TpuEff nD τ sig Val Λ c.2) α}
    {n : ℕ} {γ : Fin n → ℕ} {κ : Name} (t : Fin n) {T : Finset (Idx (m.view.loc c))} {g : Buf Val (m.view.loc c)} :
    iprop(inv κ (body EC (Val := Val) (m.view.loc c) γ) ∗ tok EC (γ t) ∗ m.view.loc c ↦[T]{fullShare.right} g)
      ⊢ iprop((∀ f : Buf Val (m.view.loc c), ⌜∀ i ∈ T, f i = g i⌝ -∗ iprop(tok EC (γ t) ∗ m.view.loc c ↦[T]{fullShare.right} g)
            -∗ wp frame (wpE defs 𝒱 c bd) Set.univ (k (m.view.readAt Val r f)) Q)
          -∗ wp frame (wpE defs 𝒱 c bd) Set.univ (.op (.load m r hl) k) Q) := by
  iintro ⟨Hinv, Ht, Hr⟩ Hk
  imod (inv_acc (Set.mem_univ κ)) $$ Hinv with ⟨Hb, Hclose⟩
  unfold body
  icases Hb with (⟨%f, Hf⟩ | Hcl)
  · imodintro
    ihave %hag := (pointsTo_agree (ℓ := m.view.loc c) (I := Finset.univ) (J := T)) $$ [Hf Hr]
    · isplitl [Hf] <;> iassumption
    iapply (fp_load c (hl := hl) (Finset.subset_univ _)) $$ Hf
    iintro Hf
    ihave Hc := Hclose $$ [Hf]
    · ileft; iexists f; iexact Hf
    imod Hc
    imodintro
    iapply Hk $$ %f
    · ipureintro; exact fun i hi => (hag i (Finset.mem_inter.mpr ⟨Finset.mem_univ _, hi⟩)).1
    isplitl [Ht] <;> iassumption
  · iexfalso; iapply (closed_false EC t); isplitl [Hcl] <;> iassumption

/-- The next copy of a batch, into the elements `S` of the buffer: the thread gives the copy its token and its half of `S`. -/
theorem wp_copyShared [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {S : Finset (Idx (dst.view.loc c))} {fd : Buf Val (dst.view.loc c)}
    {n' : ℕ} {γ : Fin n' → ℕ} {κ : Name} (t : Fin n')
    {n : ℕ} {D : Fin n → sProp 𝕄} {j : ℕ}
    (ι : Ix) (N : ℕ) (hN : dst.view.amount sm = N) (hS : dst.view.set ⊆ S) (hj : j < n)
    (hD : iprop((tok EC (γ t) ∗ dst.view.loc c ↦[S]{fullShare.right} (dst.view.write Val fd (src.view.read Val fs) Finset.univ))
              ∗ (src.view.loc c ↦[src.view.set]{q} fs)) ⊢ D ⟨j, hj⟩) :
    iprop(inv κ (body EC (Val := Val) (dst.view.loc c) γ) ∗ (src.view.loc c ↦[src.view.set]{q} fs)
        ∗ (tok EC (γ t) ∗ dst.view.loc c ↦[S]{fullShare.right} fd) ∗ Batch EC c sm ι N D j 0)
      ⊢ iprop((Batch EC c sm ι N D (j + 1) 0 -∗ wp frame (wpE defs 𝒱 c bd) Set.univ (k ⟨⟩) Q)
          -∗ wp frame (wpE defs 𝒱 c bd) Set.univ (.op (.enqueueDma src (.here dst) sm hsrc hdst hsem) k) Q) := by
  unfold Batch
  iintro ⟨#Hslab, Hs, Hd, ⟨%γ', %γ₀, %κ', #Hinv, HI, H0, Hcred⟩⟩ Hk
  ihave HI' := (show bigSep (pending j) (fun t => count EC (γ' t) 0) ⊢ iprop(count EC (γ' ⟨j, hj⟩) 0 ∗ bigSep (pending (j + 1)) (fun t => count EC (γ' t) 0))
    from Entails.of_eq (by rw [pending_succ hj, bigSep_insert (not_mem_pending_succ hj)]; rfl)) $$ HI
  icases HI' with ⟨Hc, HI⟩
  iapply (wp_enqueueDma 𝒱 c bd Set.univ ι N hN) $$ [Hs Hd] [Hc]
  · isplitl [Hs]; · iexact Hs
    iapply (writeUpdate_intro EC hS t fd)
    isplitr; · iexact Hslab
    iexact Hd
  · iapply (batch_creditUpdate EC ⟨j, hj⟩ hD)
    isplitr; · iexact Hinv
    iexact Hc
  iintro Hcred'
  iapply Hk
  iexists γ', γ₀, κ'
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

end Cert.Proof.Slab

end
-- ==== Proof.Arrays.lean ====
/-
The mathematics of the two programs as array terms: rows of a table picked by indices, laid out column by column on
one side and taken by a gather on the other.
-/
module

public import Idealize.ShloMosaic.PureOps
public import Idealize.ShloMosaic.Lib.Pipeline.Value
public import Idealize.ShloMosaic.Lib.KernelVsHost
public import Idealize.ShloMosaic.Lib.ReduceAll
public import Idealize.ShloMosaic.Lib.WordCmp
public import Idealize.ShloMosaic.Lib.ValueIdxCore

@[expose] public section

noncomputable section

namespace Cert.Arrays

open Idealize.ShloMosaic Idealize.ShloMosaic.ValueIdx

abbrev SIdx : Shape := ⟨1, ![16384]⟩
abbrev STab : Shape := ⟨3, ![1000000, 16, 3]⟩
abbrev SOut : Shape := ⟨3, ![16384, 16, 3]⟩
abbrev SCol : Shape := ⟨2, ![16384, 1]⟩

variable {α : Type}

/-- Row `I n` of the table `X`, for every `n`. -/
def picked (I : SIdx.Idx → BitVec 32) (X : STab.Idx → α) : SOut.Idx → α := fun j =>
  X (ix3 ⟨(I (ix1 (j 0))).toNat % 1000000, Nat.mod_lt _ (by norm_num)⟩ (j 1) (j 2))

/-! ## The kernel's side: entries of the table laid out as 48 rows -/

/-- Turning the table into 48 padded rows, taking a column of it per index and turning the result back is picking
    rows. -/
theorem picked_of_columns (I : SIdx.Idx → BitVec 32) (X : STab.Idx → α) (z : (⟨0, ![]⟩ : Shape).Idx → α)
    (hI : ∀ n, (I n).toNat < 1000000)
    (h1 : STab.Transposes [2, 1, 0] ⟨3, ![3, 16, 1000000]⟩)
    (h2 : (⟨3, ![3, 16, 1000000]⟩ : Shape).ShapeCasts ⟨2, ![48, 1000000]⟩)
    (h3 : (⟨2, ![48, 1000000]⟩ : Shape).Pads ![0, 0] ![0, 64] ![0, 0] ⟨2, ![48, 1000064]⟩)
    (h4 : 0 < (⟨0, ![]⟩ : Shape).numel)
    (h5 : (⟨2, ![48, 16384]⟩ : Shape).ShapeCasts ⟨3, ![3, 16, 16384]⟩)
    (h6 : (⟨3, ![3, 16, 16384]⟩ : Shape).Transposes [2, 1, 0] SOut)
    (G : (⟨2, ![48, 16384]⟩ : Shape).Idx → α)
    (hG : ∀ (r : Fin 48) (n : Fin 16384), G (ix2 r n)
      = pad ⟨2, ![48, 1000064]⟩ ![0, 0] ![0, 64] ![0, 0] (shapeCast ⟨2, ![48, 1000000]⟩
          (transpose ⟨3, ![3, 16, 1000000]⟩ [2, 1, 0] X h1) h2) z h3 h4
          (ix2 r ⟨(I (ix1 n)).toNat % 1000064, Nat.mod_lt _ (by norm_num)⟩)) :
    transpose SOut [2, 1, 0] (shapeCast ⟨3, ![3, 16, 16384]⟩ G h5) h6 = picked I X := by
  funext j
  obtain ⟨n, a, b, rfl⟩ : ∃ (n : Fin 16384) (a : Fin 16) (b : Fin 3), j = ix3 n a b := ⟨_, _, _, eq_ix3 j⟩
  have hn := hI (ix1 n)
  have e1 := a.isLt
  have e2 := b.isLt
  have hr : b.val * 16 + a.val < 48 := by omega
  have hm : (I (ix1 n)).toNat % 1000064 = (I (ix1 n)).toNat := Nat.mod_eq_of_lt (by omega)
  have hm' : (I (ix1 n)).toNat % 1000000 = (I (ix1 n)).toNat := Nat.mod_eq_of_lt hn
  rw [transpose_apply [2, 1, 0] _ h6 (ix3 n a b) (ix3 b a n) (fun c => by fin_cases c <;> rfl),
    shapeCast_apply G h5 _ (ix2 ⟨b.val * 16 + a.val, hr⟩ n) (by
      rw [Shape.rowMajor_val_two, Shape.rowMajor_val_three]; rfl),
    hG,
    pad_apply_of_inside _ _ _ _ z h3 h4 _ (ix2 ⟨b.val * 16 + a.val, hr⟩ ⟨(I (ix1 n)).toNat, hn⟩) (fun c => by
      fin_cases c
      · show b.val * 16 + a.val = 0 + (b.val * 16 + a.val) * (0 + 1); omega
      · show (I (ix1 n)).toNat % 1000064 = 0 + (I (ix1 n)).toNat * (0 + 1); omega),
    shapeCast_apply _ h2 _ (ix3 b a ⟨(I (ix1 n)).toNat, hn⟩) (by
      rw [Shape.rowMajor_val_two, Shape.rowMajor_val_three]; rfl),
    transpose_apply [2, 1, 0] X h1 _ (ix3 ⟨(I (ix1 n)).toNat, hn⟩ a b) (fun c => by fin_cases c <;> rfl)]
  exact congrArg (fun r : Fin 1000000 => X (ix3 r a b)) (Fin.ext hm'.symm)

/-! ## The reference's side: a gather of rows under a test that the indices are in range -/

abbrev rowDims (wf : GatherDims.WF STab SCol SOut [1, 2] [0] [] [0] [] 1 ![1, 16, 3]) : GatherDims STab SCol SOut where
  offsetDims := [1, 2]
  collapsedSliceDims := [0]
  operandBatchingDims := []
  startIndicesBatchingDims := []
  startIndexMap := [0]
  indexVectorDim := 1
  sliceSizes := ![1, 16, 3]
  wf := wf

/-- The gather at an index: the table's row at the start index, read signed and held inside the table. -/
theorem gather_rows_apply (wf : GatherDims.WF STab SCol SOut [1, 2] [0] [] [0] [] 1 ![1, 16, 3]) (X : STab.Idx → α)
    (J : IVec SCol 32) (y : SOut.Idx) :
    Host.gather (rowDims wf) X J y
      = X (ix3 ⟨min (J (ix2 (y 0) 0)).toInt.toNat 999999, by omega⟩ (y 1) (y 2)) := by
  unfold Host.gather
  refine congrArg X (funext fun a => Fin.ext ?_)
  show (rowDims wf).start y J a + (rowDims wf).batchCoord y a + (rowDims wf).offCoord y a = _
  rw [GatherDims.batchCoord_eq_zero _ _ _ List.not_mem_nil, Nat.add_zero]
  have kept : (rowDims wf).sKept = [1, 2] := by rfl
  have idle : ∀ a : Fin 3, a ≠ 0 → (rowDims wf).start y J a = 0 := fun a ha => by
    unfold GatherDims.start
    exact dif_neg fun h => ha (List.mem_singleton.mp h)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by rw [kept]; decide), Nat.add_zero]
    unfold GatherDims.start
    rw [dif_pos (show (0 : Fin 3) ∈ (rowDims wf).startIndexMap from List.mem_singleton.mpr rfl)]
    have hs : (rowDims wf).siIdx y ⟨List.idxOf (0 : Fin 3) (rowDims wf).startIndexMap,
        List.idxOf_lt_length_iff.2 (List.mem_singleton.mpr rfl)⟩ = ix2 (n0 := 16384) (n1 := 1) (y 0) 0 := by
      funext b; refine Fin.ext ?_
      match b with
      | ⟨0, _⟩ => rfl
      | ⟨1, _⟩ => rfl
    exact congrArg (fun k => min (J k).toInt.toNat 999999) hs
  · rw [idle 1 (by decide)]; exact (Nat.zero_add _).trans rfl
  · rw [idle 2 (by decide)]; exact (Nat.zero_add _).trans rfl

/-- The reference's term: indices below zero wrapped, rows gathered, rows of indices outside the table replaced by
    `fill`. On indices inside the table it picks rows. -/
theorem picked_of_take (I : IVec SIdx 32) (X : STab.Idx → α) (fill : SOut.Idx → α) (hI : ∀ n, (I n).toNat < 1000000)
    (b0 : (⟨0, ![]⟩ : Shape).BroadcastsInDim SIdx ![]) (b1 : SIdx.BroadcastsInDim SCol ![0])
    (b2 : (⟨0, ![]⟩ : Shape).BroadcastsInDim SCol ![]) (b3 : (⟨1, ![1]⟩ : Shape).BroadcastsInDim ⟨2, ![1, 1]⟩ ![1])
    (b4 : (⟨2, ![1, 1]⟩ : Shape).BroadcastsInDim SCol ![0, 1]) (b5 : SIdx.BroadcastsInDim SOut ![0])
    (rd : SCol.ReducesTo [1] SIdx) (h0 : 0 < (⟨0, ![]⟩ : Shape).numel)
    (wf : GatherDims.WF STab SCol SOut [1, 2] [0] [] [0] [] 1 ![1, 16, 3])
    (J : IVec SCol 32)
    (hJ : J = broadcastInDim SCol ![0] b1 (select (cmpi .slt I (broadcastInDim SIdx ![] b0 (constantI ⟨0, ![]⟩ 32 0#32)))
      (addi I (broadcastInDim SIdx ![] b0 (constantI ⟨0, ![]⟩ 32 1000000#32))) I)) :
    select (broadcastInDim SOut ![0] b5 (Host.reduce IntOp.andi
        (andi (cmpi .sge J (broadcastInDim SCol ![] b2 (constantI ⟨0, ![]⟩ 32 0#32)))
          (cmpi .sle J (broadcastInDim SCol ![0, 1] b4 (broadcastInDim ⟨2, ![1, 1]⟩ ![1] b3 (constantI ⟨1, ![1]⟩ 32 999999#32)))))
        (constantI ⟨0, ![]⟩ 1 1#1) rd h0)) (Host.gather (rowDims wf) X J) fill
      = picked I X := by
  have small : ∀ n, (I n).toNat < 2 ^ (32 - 1) := fun n => (hI n).trans (by norm_num)
  -- no index is wrapped
  have hJv : ∀ k : SCol.Idx, J k = I (ix1 ⟨(k 0).val, idx2_lt0 k⟩) := fun k => by
    rw [hJ, broadcastInDim_apply ![0] b1 _ k (ix1 ⟨(k 0).val, idx2_lt0 k⟩) (fun a => by obtain rfl : a = 0 := Subsingleton.elim _ _; rfl)]
    have hc : cmpi .slt I (broadcastInDim SIdx ![] b0 (constantI ⟨0, ![]⟩ 32 0#32)) (ix1 ⟨(k 0).val, idx2_lt0 k⟩) = 0#1 := by
      show IntOp.cmpi .slt (I _) 0#32 = 0#1
      rw [WordCmp.cmpi_slt_zero, decide_eq_false (Nat.not_le.mpr (small _))]; rfl
    rw [select_apply, hc, select_zero]
  -- every index passes the test
  have test : ∀ n, Host.reduce IntOp.andi
      (andi (cmpi .sge J (broadcastInDim SCol ![] b2 (constantI ⟨0, ![]⟩ 32 0#32)))
        (cmpi .sle J (broadcastInDim SCol ![0, 1] b4 (broadcastInDim ⟨2, ![1, 1]⟩ ![1] b3 (constantI ⟨1, ![1]⟩ 32 999999#32)))))
      (constantI ⟨0, ![]⟩ 1 1#1) rd h0 n = 1#1 := fun n => by
    refine Host.reduce_andi_one _ _ _ _ n rfl fun k => ?_
    show IntOp.andi (IntOp.cmpi .sge (J k) 0#32) (IntOp.cmpi .sle (J k) 999999#32) = 1#1
    have hk := hI (ix1 ⟨(k 0).val, idx2_lt0 k⟩)
    rw [hJv k, WordCmp.cmpi_sge_zero, decide_eq_true (small _), WordCmp.cmpi_sle_of_lt (small _) (by decide),
      decide_eq_true (show (I (ix1 ⟨(k 0).val, idx2_lt0 k⟩)).toNat ≤ (999999#32 : BitVec 32).toNat from Nat.le_of_lt_succ hk)]
    rfl
  funext j
  have hb : broadcastInDim SOut ![0] b5 (Host.reduce IntOp.andi
      (andi (cmpi .sge J (broadcastInDim SCol ![] b2 (constantI ⟨0, ![]⟩ 32 0#32)))
        (cmpi .sle J (broadcastInDim SCol ![0, 1] b4 (broadcastInDim ⟨2, ![1, 1]⟩ ![1] b3 (constantI ⟨1, ![1]⟩ 32 999999#32)))))
      (constantI ⟨0, ![]⟩ 1 1#1) rd h0) j = 1#1 := test _
  rw [select_apply, hb, select_one, gather_rows_apply]
  have hn := hI (ix1 (j 0))
  have hv : (J (ix2 (j 0) 0)) = I (ix1 (j 0)) := hJv _
  have hr : min (J (ix2 (j 0) 0)).toInt.toNat 999999 = (I (ix1 (j 0))).toNat % 1000000 := by
    rw [hv, BitVec.toInt_eq_toNat_of_lt (by omega)]
    omega
  exact congrArg (fun r : Fin 1000000 => X (ix3 r (j 1) (j 2))) (Fin.ext hr)

/-! ## The precondition -/

/-- The test that all indices are in range, as a fact about each. -/
theorem in_range (I : IVec SIdx 32) (b0 : (⟨0, ![]⟩ : Shape).BroadcastsInDim SIdx ![])
    (rd : SIdx.ReducesTo [0] ⟨0, ![]⟩) (h0 : 0 < (⟨0, ![]⟩ : Shape).numel)
    (h : Host.reduce IntOp.andi
      (andi (cmpi .sge I (broadcastInDim SIdx ![] b0 (constantI ⟨0, ![]⟩ 32 0#32)))
        (cmpi .slt I (broadcastInDim SIdx ![] b0 (constantI ⟨0, ![]⟩ 32 1000000#32))))
      (constantI ⟨0, ![]⟩ 1 1#1) rd h0 = fun _ => 1#1) (n : SIdx.Idx) : (I n).toNat < 1000000 := by
  have e := Host.reduce_andi_all _ _ rd h0 (fun a => a.elim0) (congrFun h _) n
  have e' : IntOp.andi (IntOp.cmpi .sge (I n) 0#32) (IntOp.cmpi .slt (I n) (BitVec.ofNat 32 1000000)) = 1#1 := e
  rw [WordCmp.andi_sge_zero_slt_ofNat (by norm_num)] at e'
  exact of_decide_eq_true (by by_contra hd; rw [Bool.not_eq_true] at hd; rw [hd] at e'; exact absurd e' (by decide))

end Cert.Arrays

end
-- ==== Proof.Ideal.Body.lean ====
/-
The tile's program, written compactly.

The printed body of the kernel spells out sixteen copies, sixteen extractions and sixteen copies
again. Here each of those is one definition with the slot as a parameter, and the printed body is
shown to be this program.
-/
module

public import proofs.«01_k».proof.Proof.Gen.KernelIdeal
public import proofs.«01_k».proof.Proof.Gen.KernelIdeal.Skeleton

@[expose] public section

noncomputable section

namespace Cert.KernelIdeal.Body

open Cert.KernelIdeal Cert.KernelIdeal.Gen
open Idealize.ShloMosaic Idealize.SL.Sem

variable {F : FTy → Type} [FloatOps F]

variable (i : grid0.Coords)

/-- The programs of one tile. -/
abbrev TileProg (F : FTy → Type) [FloatOps F] (i : grid0.Coords) (α : Type) : Type 1 :=
  Prog (TpuEff nD τ sig (Elt F) Λ₀ (.scVector ((i 0).castLE hcore0) ((i 1).castLE hsub0))) α

/-- Eight steps, one after the other. -/
def seq8 (f : Fin 8 → TileProg F i PUnit) : TileProg F i PUnit := do
  f 0; f 1; f 2; f 3; f 4; f 5; f 6; f 7

/-- Slot `s` of the slab lies inside it. -/
theorem slot_inb (s : Fin 16) :
    ∀ a, (![s.val, 0, 0] : Fin 3 → Nat) a + S1x48x128.size a ≤ S16x48x128.size a := by
  revert s; decide

/-- Half `h` of the slab lies inside it. -/
theorem half_inb (h : Fin 2) :
    ∀ a, (![8 * h.val, 0, 0] : Fin 3 → Nat) a + S8x48x128.size a ≤ S16x48x128.size a := by
  revert h; decide

theorem slices_lane (s : Fin 16) : S16.Slices ![s.val] S1 := by revert s; decide

/-- Slot `k` of half `h`. -/
def slotOf (h : Fin 2) (k : Fin 8) : Fin 16 := ⟨8 * h.val + k.val, by omega⟩

/-- The view of one slot of the slab. -/
abbrev slotRef (arg6 : Memref sig .scVector .vmem S16x48x128 .f32) (s : Fin 16) :
    Memref sig .scVector .vmem S48x128 .f32 :=
  (arg6.slice (Rect.unit (s := S16x48x128) ![s.val, 0, 0] S1x48x128.size (slot_inb s))
    (fun _ => rfl)).squeeze S48x128 squeezes_S1x48x128_S48x128

/-- One lane of a vector of words. -/
abbrev lane (v : IVec S16 32) (s : Fin 16) : BitVec 32 :=
  extractAt ![0] (extractStridedSlice S1 ![s.val] v (slices_lane s)) inpos_S1_p0

/-- The copy of one column block of the table into a slot of the slab. -/
def fire (arg3 : Memref sig .scVector .hbm S48x1000064 .f32)
    (arg6 : Memref sig .scVector .vmem S16x48x128 .f32) (sm : DmaSems sig S_)
    (chk : BitVec 32 → Prop) (dec : ∀ g, Decidable (chk g))
    (inb : ∀ g, chk g → ∀ a, k0_off2 g a + S48x128.size a ≤ S48x1000064.size a)
    (v : IVec S16 32) (s : Fin 16) : TileProg F i PUnit := do
  have w : chk (lane v s) := (← Prog.lift (TpuEff.assume (chk (lane v s)) (dec (lane v s)))).down
  Prog.lift (.enqueueDma
    (arg3.slice (Rect.unit (s := S48x1000064) (k0_off2 (lane v s)) S48x128.size (inb _ w))
      (fun _ => rfl))
    (.here (slotRef arg6 s)) (.dma sm.sem) (View.wordExact_bits rfl)
    ((View.wordExact_bits rfl).reshape _ _) ⟨Or.inl rfl, trivial⟩)

/-- Sixteen words of one slot's column to the rows of the result. -/
def ext (arg6 : Memref sig .scVector .vmem S16x48x128 .f32)
    (arg7 : Memref sig .scVector .vmem S48x512 .f32) (vs vl vc vr : IVec S16 32) :
    TileProg F i PUnit := do
  have w : k0_chk17 vs vl vc vr :=
    (← Prog.lift (TpuEff.assume (k0_chk17 vs vl vc vr) (k0_chk17.dec vs vl vc vr))).down
  let x : Vec F S16 .f32 ← SparseCore.vectorLoadIdx arg6 ![vs, vr, vl]
    (k0_idx1_inb vs vl vc vr w) (View.loads_vmem h_S16x48x128)
  SparseCore.vectorStoreIdx arg7 ![vr, vc] x (fun _ => 1#1) false (k0_idx2_inb vs vl vc vr w)
    (View.stores_vmem_bits_univ h_S48x512 rfl)

/-- The slot's number, in every lane. -/
abbrev vSlot (h : Fin 2) (k : Fin 8) : IVec S16 32 :=
  broadcast S16 (BitVec.ofNat 32 (slotOf h k).val)

/-- The places of the indices inside their column blocks. -/
abbrev low (v : IVec S16 32) : IVec S16 32 := andi v (broadcast S16 127#32)

/-- The place of the index inside its column block, in every lane. -/
abbrev vLane (w : IVec S16 32) (h : Fin 2) (k : Fin 8) : IVec S16 32 :=
  broadcast S16 (lane w (slotOf h k))

/-- The column of the result, in every lane. -/
abbrev vCol (a : BitVec 32) (h : Fin 2) (k : Fin 8) : IVec S16 32 :=
  broadcast S16 (Scalar.addi (Scalar.addi (Scalar.muli a 16#32) (BitVec.ofNat 32 (8 * h.val)))
    (BitVec.ofNat 32 k.val))

/-- Sixteen successive rows. -/
abbrev vRow (v3 : IVec S16 32) (j : Fin 3) : IVec S16 32 :=
  addi v3 (broadcast S16 (BitVec.ofNat 32 (16 * j.val)))

/-- The column of one slot to the result, from the places `w`. -/
def extract (arg6 : Memref sig .scVector .vmem S16x48x128 .f32)
    (arg7 : Memref sig .scVector .vmem S48x512 .f32) (v3 : IVec S16 32) (a : BitVec 32)
    (w : IVec S16 32) (h : Fin 2) (k : Fin 8) : TileProg F i PUnit := do
  ext i arg6 arg7 (vSlot h k) (vLane w h k) (vCol a h k) (vRow v3 0)
  ext i arg6 arg7 (vSlot h k) (vLane w h k) (vCol a h k) (vRow v3 1)
  ext i arg6 arg7 (vSlot h k) (vLane w h k) (vCol a h k) (vRow v3 2)

/-- The wait for the eight copies of one half. -/
def drain (arg3 : Memref sig .scVector .hbm S48x1000064 .f32)
    (arg6 : Memref sig .scVector .vmem S16x48x128 .f32) (sm : DmaSems sig S_) (h : Fin 2) :
    TileProg F i PUnit :=
  Prog.lift (.waitDma2 sm.sem
    (arg3.slice (Rect.unit (s := S48x1000064) ![0, 0] S48x1024.size
      inb_S48x1000064_S48x1024_0_0) (fun _ => rfl))
    (arg6.slice (Rect.unit (s := S16x48x128) ![8 * h.val, 0, 0] S8x48x128.size (half_inb h))
      (fun _ => rfl))
    (View.wordExact_bits rfl) (View.wordExact_bits rfl))

/-- The next trip's copies of the first half. -/
def refire0 (arg3 : Memref sig .scVector .hbm S48x1000064 .f32)
    (arg5 : Memref sig .scVector .vmem S512 .i32)
    (arg6 : Memref sig .scVector .vmem S16x48x128 .f32) (arg8 : DmaSems sig S_)
    (t : Fin k0_t1_loop.trips) (h1 : k0_cond1 t = 1#1) : TileProg F i PUnit := do
  let v : Vec F S16 .i32 ← Prog.lift (.load arg5 (Rect.unit (s := S512) (k0_off19 t) S16.size
    (k0_off19_inb t h1)).toLoadRect (View.loadsAt_vmem h_S16))
  seq8 i fun k => fire i arg3 arg6 arg8 (k0_chk41 t) (k0_chk41.dec t)
    (fun g w => k0_off20_inb t g w h1) v (slotOf 0 k)
  pure ⟨⟩

/-- The next trip's copies of the second half. -/
def refire1 (arg3 : Memref sig .scVector .hbm S48x1000064 .f32)
    (arg5 : Memref sig .scVector .vmem S512 .i32)
    (arg6 : Memref sig .scVector .vmem S16x48x128 .f32) (arg9 : DmaSems sig S_)
    (t : Fin k0_t1_loop.trips) (h2 : k0_cond2 t = 1#1) : TileProg F i PUnit := do
  let v : Vec F S16 .i32 ← Prog.lift (.load arg5 (Rect.unit (s := S512) (k0_off28 t) S16.size
    (k0_off28_inb t h2)).toLoadRect (View.loadsAt_vmem h_S16))
  seq8 i fun k => fire i arg3 arg6 arg9 (k0_chk73 t) (k0_chk73.dec t)
    (fun g w => k0_off29_inb t g w h2) v (slotOf 1 k)
  pure ⟨⟩

/-- From the last extraction of the first half to the wait for the second. -/
def middle (arg3 : Memref sig .scVector .hbm S48x1000064 .f32)
    (arg5 : Memref sig .scVector .vmem S512 .i32)
    (arg6 : Memref sig .scVector .vmem S16x48x128 .f32)
    (arg7 : Memref sig .scVector .vmem S48x512 .f32) (arg8 arg9 : DmaSems sig S_)
    (v3 : IVec S16 32) (t : Fin k0_t1_loop.trips) (a : BitVec 32) (v : IVec S16 32) :
    TileProg F i (Σ' (v339 : IVec S16 32) (v343 : IVec S16 32) (v346 : IVec S16 32)
      (v347 : IVec S16 32), BitVec 32) := do
  extract i arg6 arg7 v3 a (low v) 0 7
  if h1 : k0_cond1 t = 1#1 then refire0 i arg3 arg5 arg6 arg8 t h1 else pure ⟨⟩
  drain i arg3 arg6 arg9 1
  pure ⟨low v, vSlot 1 0, vLane (low v) 1 0, vCol a 1 0, 0#32⟩

/-- One trip, up to the second half's next copies. -/
def trip (arg3 : Memref sig .scVector .hbm S48x1000064 .f32)
    (arg5 : Memref sig .scVector .vmem S512 .i32)
    (arg6 : Memref sig .scVector .vmem S16x48x128 .f32)
    (arg7 : Memref sig .scVector .vmem S48x512 .f32) (arg8 arg9 : DmaSems sig S_)
    (v3 : IVec S16 32) (t : Fin k0_t1_loop.trips) : TileProg F i (BitVec 32) := do
  let v : Vec F S16 .i32 ← Prog.lift (.load arg5 (Rect.unit (s := S512) (k0_off18 t) S16.size
    (k0_off18_inb t)).toLoadRect (View.loadsAt_vmem h_S16))
  drain i arg3 arg6 arg8 0
  extract i arg6 arg7 v3 (Scf.iv 0#32 1#32 t) (low v) 0 0
  extract i arg6 arg7 v3 (Scf.iv 0#32 1#32 t) (low v) 0 1
  extract i arg6 arg7 v3 (Scf.iv 0#32 1#32 t) (low v) 0 2
  extract i arg6 arg7 v3 (Scf.iv 0#32 1#32 t) (low v) 0 3
  extract i arg6 arg7 v3 (Scf.iv 0#32 1#32 t) (low v) 0 4
  extract i arg6 arg7 v3 (Scf.iv 0#32 1#32 t) (low v) 0 5
  extract i arg6 arg7 v3 (Scf.iv 0#32 1#32 t) (low v) 0 6
  let ⟨w, vs, vl, vc, z⟩ ← middle i arg3 arg5 arg6 arg7 arg8 arg9 v3 t (Scf.iv 0#32 1#32 t) v
  ext i arg6 arg7 vs vl vc (addi v3 (broadcast S16 z))
  ext i arg6 arg7 vs vl vc (vRow v3 1)
  ext i arg6 arg7 vs vl vc (vRow v3 2)
  extract i arg6 arg7 v3 (Scf.iv 0#32 1#32 t) w 1 1
  extract i arg6 arg7 v3 (Scf.iv 0#32 1#32 t) w 1 2
  extract i arg6 arg7 v3 (Scf.iv 0#32 1#32 t) w 1 3
  extract i arg6 arg7 v3 (Scf.iv 0#32 1#32 t) w 1 4
  extract i arg6 arg7 v3 (Scf.iv 0#32 1#32 t) w 1 5
  extract i arg6 arg7 v3 (Scf.iv 0#32 1#32 t) w 1 6
  extract i arg6 arg7 v3 (Scf.iv 0#32 1#32 t) w 1 7
  pure (Scf.iv 0#32 1#32 t)

/-- One trip. -/
def whole (arg3 : Memref sig .scVector .hbm S48x1000064 .f32)
    (arg5 : Memref sig .scVector .vmem S512 .i32)
    (arg6 : Memref sig .scVector .vmem S16x48x128 .f32)
    (arg7 : Memref sig .scVector .vmem S48x512 .f32) (arg8 arg9 : DmaSems sig S_)
    (v3 : IVec S16 32) : Fin k0_t1_loop.trips → Unit → TileProg F i Unit := fun t _ => do
  let _ ← trip i arg3 arg5 arg6 arg7 arg8 arg9 v3 t
  if h2 : k0_cond2 t = 1#1 then refire1 i arg3 arg5 arg6 arg9 t h2 else pure ⟨⟩
  pure ⟨⟩

/-- The tile's program. -/
def prog (arg2 : Memref sig .scVector .hbm S16384 .i32)
    (arg3 : Memref sig .scVector .hbm S48x1000064 .f32)
    (arg4 : Memref sig .scVector .hbm S48x16384 .f32)
    (arg5 : Memref sig .scVector .vmem S512 .i32) (harg5 : arg5.IsWhole)
    (arg6 : Memref sig .scVector .vmem S16x48x128 .f32)
    (arg7 : Memref sig .scVector .vmem S48x512 .f32) (harg7 : arg7.IsWhole)
    (arg8 arg9 arg10 s0 : DmaSems sig S_) : TileProg F i PUnit := do
  Prog.lift (.enqueueDma
    (arg2.slice (Rect.unit (s := S16384) (k0_off1 i) S512.size (k0_off1_inb i)) (fun _ => rfl))
    (.here arg5) (.dma s0.sem) (View.wordExact_bits rfl) harg5.wordExact ⟨Or.inl rfl, trivial⟩)
  Prog.lift (.waitDma2 s0.sem
    (arg2.slice (Rect.unit (s := S16384) (k0_off1 i) S512.size (k0_off1_inb i)) (fun _ => rfl))
    arg5 (View.wordExact_bits rfl) harg5.wordExact)
  let v : Vec F S16 .i32 ← Prog.lift (.load arg5 (Rect.unit (s := S512) ![0] S16.size
    inb_S512_S16_0).toLoadRect (View.loadsAt_vmem h_S16))
  seq8 i fun k => fire i arg3 arg6 arg8 k0_chk1 k0_chk1.dec k0_off2_inb v (slotOf 0 k)
  seq8 i fun k => fire i arg3 arg6 arg9 k0_chk1 k0_chk1.dec k0_off2_inb v (slotOf 1 k)
  Scf.Loop.for k0_t1_loop k0_t1_ok ⟨⟩ (whole i arg3 arg5 arg6 arg7 arg8 arg9
    (iota .scVector S16 32 [0] iota_S16_d0_w32_scVector))
  Prog.lift (.enqueueDma arg7
    (.here (arg4.slice (Rect.unit (s := S48x16384) (k0_off37 i) S48x512.size (k0_off37_inb i))
      (fun _ => rfl)))
    (.dma arg10.sem) harg7.wordExact (View.wordExact_bits rfl) ⟨Or.inl rfl, trivial⟩)
  Prog.lift (.waitDma2 arg10.sem arg7
    (arg4.slice (Rect.unit (s := S48x16384) (k0_off37 i) S48x512.size (k0_off37_inb i))
      (fun _ => rfl))
    harg7.wordExact (View.wordExact_bits rfl))
  pure ⟨⟩

section Eq

variable (arg2 : Memref sig .scVector .hbm S16384 .i32) (harg2 : arg2.IsWhole)
  (arg3 : Memref sig .scVector .hbm S48x1000064 .f32) (harg3 : arg3.IsWhole)
  (arg4 : Memref sig .scVector .hbm S48x16384 .f32) (harg4 : arg4.IsWhole)
  (arg5 : Memref sig .scVector .vmem S512 .i32) (harg5 : arg5.IsWhole)
  (arg6 : Memref sig .scVector .vmem S16x48x128 .f32) (harg6 : arg6.IsWhole)
  (arg7 : Memref sig .scVector .vmem S48x512 .f32) (harg7 : arg7.IsWhole)
  (arg8 arg9 arg10 s0 : DmaSems sig S_)

set_option maxRecDepth 65536 in
set_option maxHeartbeats 1000000 in
/-- The printed trip is the compact one. -/
theorem body_eq (v3 : IVec S16 32) (t : Fin k0_t1_loop.trips) (u : Unit) :
    k0_t1_body (F := F) i arg2 harg2 arg3 harg3 arg4 harg4 arg5 harg5 arg6 harg6 arg7 harg7
        arg8 arg9 arg10 s0 v3 t u
      = whole i arg3 arg5 arg6 arg7 arg8 arg9 v3 t u := rfl

set_option maxRecDepth 65536 in
set_option maxHeartbeats 1000000 in
/-- The printed program is the compact one. -/
theorem prog_eq :
    cc0_body (F := F) i arg2 harg2 arg3 harg3 arg4 harg4 arg5 harg5 arg6 harg6 arg7 harg7
        arg8 arg9 arg10 s0
      = prog i arg2 arg3 arg4 arg5 harg5 arg6 arg7 harg7 arg8 arg9 arg10 s0 := by
  rw [cc0_body_eq_skeleton]
  have hb := funext fun t => funext fun u =>
    body_eq (F := F) i arg2 harg2 arg3 harg3 arg4 harg4 arg5 harg5 arg6 harg6 arg7 harg7
      arg8 arg9 arg10 s0 (iota .scVector S16 32 [0] iota_S16_d0_w32_scVector) t u
  unfold prog
  rw [← hb]
  rfl

end Eq

end Cert.KernelIdeal.Body
-- ==== Proof.Ideal.Words.lean ====
/-
The numbers the kernel computes with: offsets of column blocks, and the places that the gathers and
the scatters name.
-/
module

public import proofs.«01_k».proof.Proof.Ideal.Body

@[expose] public section

noncomputable section

namespace Cert.KernelIdeal.Words

open Cert.KernelIdeal Cert.KernelIdeal.Gen Cert.KernelIdeal.Body
open Idealize.ShloMosaic

variable {F : FTy → Type} [FloatOps F]

/-- The column block of an index starts at the greatest multiple of 128 below it. -/
theorem off2_eq {g : BitVec 32} (hg : g.toNat < 1000000) : k0_off2 g = ![0, g.toNat / 128 * 128] := by
  have h : (Scalar.muli (Scalar.shrsi g 7#32) 128#32).toNat = g.toNat / 128 * 128 := by
    unfold Scalar.muli Scalar.shrsi IntOp.muli IntOp.shrsi
    rw [if_pos (by decide)]
    have h1 : (g.sshiftRight' 7#32).toNat = g.toNat / 128 := by
      rw [BitVec.sshiftRight', BitVec.sshiftRight_eq_of_msb_false (by rw [BitVec.msb_eq_false_iff_two_mul_lt]; omega)]
      simp [BitVec.toNat_ushiftRight, Nat.shiftRight_eq_div_pow]
    rw [BitVec.toNat_mul, h1]
    have : (128#32 : BitVec 32).toNat = 128 := rfl
    rw [this]; omega
  unfold k0_off2
  simp only [h]

/-- A column block lies inside the padded table. -/
theorem block_inb {g : BitVec 32} (hg : g.toNat < 1000000) :
    ∀ a, (![0, g.toNat / 128 * 128] : Fin 2 → Nat) a + S48x128.size a ≤ S48x1000064.size a := by
  intro a
  match a with
  | 0 => exact Nat.le_refl 48
  | 1 => show g.toNat / 128 * 128 + 128 ≤ 1000064; omega

theorem mult_dvd {g : BitVec 32} (hg : g.toNat < 1000000) : 128 ∣ (k0_mult1 g).toNat := by
  have h := congrFun (off2_eq hg) 1
  have h' : (k0_mult1 g).toNat = g.toNat / 128 * 128 := h
  rw [h']; exact Nat.dvd_mul_left _ _

theorem chk1 {g : BitVec 32} (hg : g.toNat < 1000000) : k0_chk1 g :=
  ⟨mult_dvd hg, by rw [off2_eq hg]; exact block_inb hg⟩

theorem chk41 (t : Fin k0_t1_loop.trips) {g : BitVec 32} (hg : g.toNat < 1000000) : k0_chk41 t g :=
  ⟨fun _ => mult_dvd hg, fun _ => (chk1 hg).2⟩

theorem chk73 (t : Fin k0_t1_loop.trips) {g : BitVec 32} (hg : g.toNat < 1000000) : k0_chk73 t g :=
  ⟨fun _ => mult_dvd hg, fun _ => (chk1 hg).2⟩

theorem trips_eq : k0_t1_loop.trips = 32 := by decide +kernel

theorem cond1_iff (t : Fin k0_t1_loop.trips) : k0_cond1 t = 1#1 ↔ t.val < 31 := by
  revert t; decide +kernel

theorem cond2_iff (t : Fin k0_t1_loop.trips) : k0_cond2 t = 1#1 ↔ t.val < 31 := by
  revert t; decide +kernel

/-- A lane of a sixteen-word vector. -/
theorem lane_eq (v : IVec S16 32) (s : Fin 16) : lane v s = v (Shape.ofLane (d := ![16]) s) := by
  show v _ = v _
  congr 1
  funext a
  match a with
  | 0 => exact Fin.ext (Nat.add_zero _)

/-- What each lane of the row vectors holds. -/
theorem vRow_toNat (j : Fin 3) (x : S16.Idx) :
    (vRow (iota .scVector S16 32 [0] iota_S16_d0_w32_scVector) j x).toNat = 16 * j.val + (x 0).val := by
  have hx : (x 0).val < 16 := (x 0).isLt
  show (BitVec.ofNat 32 ((0 * 16 + (x 0).val)) + BitVec.ofNat 32 (16 * j.val)).toNat = _
  rw [BitVec.toNat_add, BitVec.toNat_ofNat, BitVec.toNat_ofNat]
  omega

theorem vSlot_toNat (h : Fin 2) (k : Fin 8) (x : S16.Idx) : (vSlot h k x).toNat = (slotOf h k).val := by
  show (BitVec.ofNat 32 (slotOf h k).val).toNat = _
  rw [BitVec.toNat_ofNat]
  have := (slotOf h k).isLt
  omega

theorem low_toNat (v : IVec S16 32) (x : S16.Idx) : (low v x).toNat = (v x).toNat % 128 := by
  show (v x &&& 127#32).toNat = _
  rw [BitVec.toNat_and]
  exact Nat.and_two_pow_sub_one_eq_mod _ 7

theorem vLane_toNat (v : IVec S16 32) (h : Fin 2) (k : Fin 8) (x : S16.Idx) :
    (vLane (low v) h k x).toNat = (v (Shape.ofLane (d := ![16]) (slotOf h k))).toNat % 128 := by
  show (lane (low v) (slotOf h k)).toNat = _
  rw [lane_eq, low_toNat]

theorem vCol_toNat (t : Fin k0_t1_loop.trips) (h : Fin 2) (k : Fin 8) (x : S16.Idx) :
    (vCol (Scf.iv 0#32 1#32 t) h k x).toNat = 16 * t.val + (slotOf h k).val := by
  have ht : t.val < 32 := lt_of_lt_of_eq t.isLt trips_eq
  have hh := h.isLt
  have hk := k.isLt
  show ((0#32 + BitVec.ofNat 32 t.val * 1#32) * 16#32 + BitVec.ofNat 32 (8 * h.val)
    + BitVec.ofNat 32 k.val).toNat = 16 * t.val + (8 * h.val + k.val)
  simp only [BitVec.toNat_add, BitVec.toNat_mul, BitVec.toNat_ofNat]
  omega

/-- The places that one extraction names are inside their buffers. -/
theorem chk17 (v : IVec S16 32) (t : Fin k0_t1_loop.trips) (h : Fin 2) (k : Fin 8) (j : Fin 3) :
    k0_chk17 (vSlot h k) (vLane (low v) h k) (vCol (Scf.iv 0#32 1#32 t) h k)
      (vRow (iota .scVector S16 32 [0] iota_S16_d0_w32_scVector) j) := by
  have ht : t.val < 32 := lt_of_lt_of_eq t.isLt trips_eq
  have hs := (slotOf h k).isLt
  have hj := j.isLt
  constructor
  · intro a x
    have hx : (x 0).val < 16 := (x 0).isLt
    match a with
    | 0 => show (vSlot h k x).toNat < 16; rw [vSlot_toNat]; exact hs
    | 1 => show (vRow _ j x).toNat < 48; rw [vRow_toNat]; omega
    | 2 => show (vLane (low v) h k x).toNat < 128; rw [vLane_toNat]; omega
  · intro a x
    have hx : (x 0).val < 16 := (x 0).isLt
    match a with
    | 0 => show (vRow _ j x).toNat < 48; rw [vRow_toNat]; omega
    | 1 => show (vCol _ h k x).toNat < 512; rw [vCol_toNat]; omega

section Scatter

variable {s : Shape} {e : EltTy} {d : Fin 1 → Nat}

/-- A scatter leaves every place that no lane names. -/
theorem storeIdx_miss (f : Vec F s e) (idxs : Fin s.rank → IVec ⟨1, d⟩ 32) (v : Vec F ⟨1, d⟩ e)
    (h : ∀ a x, (idxs a x).toNat < s.size a) (j : s.Idx) (hj : ∀ x, idxAt idxs h x ≠ j) :
    storeIdx f idxs v (fun _ => 1#1) false h j = f j := by
  unfold storeIdx
  generalize List.finRange _ = l
  induction l generalizing f with
  | nil => rfl
  | cons k l ih =>
    rw [List.foldl_cons, ih]
    show (if (1#1 : BitVec 1) = 1 then (_ : Vec F s e) else _) j = f j
    rw [if_pos (show (1#1 : BitVec 1) = 1 from rfl)]
    exact if_neg fun hk => hj _ (funext fun a => Fin.ext (hk a).symm)

/-- A scatter puts each lane's word at the place the lane names, when no two lanes name one. -/
theorem storeIdx_hit (f : Vec F s e) (idxs : Fin s.rank → IVec ⟨1, d⟩ 32) (v : Vec F ⟨1, d⟩ e)
    (h : ∀ a x, (idxs a x).toNat < s.size a)
    (hinj : ∀ x y, idxAt idxs h x = idxAt idxs h y → x = y) (n : Fin (d 0)) :
    storeIdx f idxs v (fun _ => 1#1) false h (idxAt idxs h (Shape.ofLane n)) = v (Shape.ofLane n) := by
  unfold storeIdx
  have hn := List.mem_finRange n
  revert hn
  generalize List.finRange (d 0) = l
  intro hn
  have hn' : n ∈ l ∨ f (idxAt idxs h (Shape.ofLane n)) = v (Shape.ofLane n) := Or.inl hn
  clear hn
  induction l generalizing f with
  | nil => exact hn'.resolve_left List.not_mem_nil
  | cons k l ih =>
    rw [List.foldl_cons]
    apply ih
    by_cases hk : n = k
    · right
      subst hk
      show (if (1#1 : BitVec 1) = 1 then (_ : Vec F s e) else _) _ = _
      rw [if_pos (show (1#1 : BitVec 1) = 1 from rfl)]
      exact if_pos fun _ => rfl
    · rcases hn' with hn' | hn'
      · exact Or.inl ((List.mem_cons.mp hn').resolve_left hk)
      · right
        show (if (1#1 : BitVec 1) = 1 then (_ : Vec F s e) else _) _ = _
        rw [if_pos (show (1#1 : BitVec 1) = 1 from rfl)]
        refine (if_neg fun hc => hk ?_).trans hn'
        have := congrFun (hinj _ _ (funext fun a => Fin.ext (hc a))) 0
        exact Fin.ext (congrArg Fin.val this)

end Scatter

end Cert.KernelIdeal.Words

end
-- ==== Proof.Ideal.Views.lean ====
/-
The parts of the buffers that a tile's copies touch, and what one extraction does to the result's
columns.
-/
module

public import proofs.«01_k».proof.Proof.Ideal.Words
public import Idealize.ShloMosaic.Lib.Pointwise.Index
public import Idealize.ShloMosaic.Lib.Pipeline.Value
public import Idealize.ShloMosaic.Lib.Pipeline.ValueKit.Geometry

@[expose] public section

noncomputable section

namespace Cert.KernelIdeal.Views

open Cert.KernelIdeal Cert.KernelIdeal.Gen Cert.KernelIdeal.Body Cert.KernelIdeal.Words
open Idealize.ShloMosaic

variable {F : FTy → Type} [FloatOps F]

abbrev iV : Memref sig .scVector .hbm S16384 .i32 := Memref.whole main_arg0_scv
abbrev tV : Memref sig .scVector .hbm S48x1000064 .f32 := Memref.whole main_v2_scv
abbrev oV : Memref sig .scVector .hbm S48x16384 .f32 := Memref.whole main_v3_scv
abbrev idxV : Memref sig .scVector .vmem S512 .i32 := Memref.whole cc0_scratch0
abbrev slabV : Memref sig .scVector .vmem S16x48x128 .f32 := Memref.whole cc0_scratch1
abbrev rowsV : Memref sig .scVector .vmem S48x512 .f32 := Memref.whole cc0_scratch2

/-- The elements of one slot of the slab. -/
abbrev slotSet (s : Fin 16) : Finset S16x48x128.Idx := (slotRef slabV s).view.set

/-- The column block of the table that holds column `g`. -/
abbrev blk (g : BitVec 32) (hg : g.toNat < 1000000) : Memref sig .scVector .hbm S48x128 .f32 :=
  tV.slice (Rect.unit (s := S48x1000064) (k0_off2 g) S48x128.size (chk1 hg).2) (fun _ => rfl)

omit [FloatOps F] in
theorem slot_emb_unit (s : Fin 16) (y : S48x128.Idx) :
    (slotRef slabV s).view.emb y
      = (Rect.unit (s := S16x48x128) ![s.val, 0, 0] S1x48x128.size (slot_inb s)).emb
          (Shape.reshapeEquiv squeezes_S1x48x128_S48x128.numel_eq y) := rfl

theorem slot_emb (s : Fin 16) (y : S48x128.Idx) :
    (slotRef slabV s).view.emb y = ix3 (n0 := 16) (n1 := 48) (n2 := 128) s (y 0) (y 1) := by
  have hr : Shape.reshapeEquiv squeezes_S1x48x128_S48x128.numel_eq y
      = (Fin.cons ⟨0, Nat.one_pos⟩ y : S1x48x128.Idx) :=
    Shape.reshapeEquiv_cons_one squeezes_S1x48x128_S48x128.numel_eq y
  rw [slot_emb_unit, hr]
  funext a
  apply Fin.ext
  rw [ValueKit.rect_emb_unit_val]
  match a with
  | 0 => exact Nat.add_zero _
  | 1 => exact Nat.zero_add _
  | 2 => exact Nat.zero_add _

theorem mem_slotSet {s : Fin 16} {x : S16x48x128.Idx} : x ∈ slotSet s ↔ x 0 = s := by
  constructor
  · intro h
    obtain ⟨y, rfl⟩ := View.exists_emb_of_mem_set _ h
    rw [slot_emb]; rfl
  · intro h
    refine Finset.mem_map.mpr ⟨ix2 (n0 := 48) (n1 := 128) (x 1) (x 2), Finset.mem_univ _, ?_⟩
    refine (slot_emb s _).trans ?_
    rw [← h]
    exact ix3_eta (n0 := 16) (n1 := 48) (n2 := 128) x

theorem slotSet_disjoint {s t : Fin 16} (h : s ≠ t) : Disjoint (slotSet s) (slotSet t) :=
  Finset.disjoint_left.mpr fun _ hs ht => h ((mem_slotSet.mp hs).symm.trans (mem_slotSet.mp ht))

theorem slotSet_cover : Finset.univ.biUnion slotSet = Finset.univ := by
  ext x
  simp only [Finset.mem_biUnion, Finset.mem_univ, true_and, iff_true]
  exact ⟨x 0, mem_slotSet.mpr rfl⟩

theorem blk_emb {g : BitVec 32} (hg : g.toNat < 1000000) (y : S48x128.Idx) :
    (blk g hg).view.emb y = ix2 (n0 := 48) (n1 := 1000064) (y 0)
      ⟨g.toNat / 128 * 128 + (y 1).val, by have : (y 1).val < 128 := (y 1).isLt; omega⟩ := by
  show (Rect.unit (s := S48x1000064) (k0_off2 g) S48x128.size (chk1 hg).2).emb y = _
  funext a
  apply Fin.ext
  rw [ValueKit.rect_emb_unit_val]
  refine (congrArg (· + (y a).val) (congrFun (off2_eq hg) a)).trans ?_
  match a with
  | 0 => exact Nat.zero_add _
  | 1 => rfl

/-- One slot's contents, once the block that holds column `g` of the table has landed in it. -/
def blockOf (T : S48x1000064.Idx → Elt F .f32) (g : BitVec 32) : S16x48x128.Idx → Elt F .f32 :=
  fun x => T (ix2 (n0 := 48) (n1 := 1000064) (x 1)
    ⟨(g.toNat / 128 * 128 + (x 2).val) % 1000064, Nat.mod_lt _ (by decide)⟩)

/-- What a copy of a column block leaves in its slot. -/
theorem write_block (T : S48x1000064.Idx → Elt F .f32) (fd : S16x48x128.Idx → Elt F .f32)
    {g : BitVec 32} (hg : g.toNat < 1000000) (s : Fin 16) (x : S16x48x128.Idx) (hx : x ∈ slotSet s) :
    (slotRef slabV s).view.write (Elt F) fd ((blk g hg).view.read (Elt F) T) Finset.univ x
      = blockOf T g x := by
  obtain ⟨y, rfl⟩ := View.exists_emb_of_mem_set _ hx
  rw [View.write_emb_of_mem _ _ (Finset.mem_univ y), View.read_apply, blk_emb, slot_emb]
  simp only [cast_eq]
  unfold blockOf
  congr 2
  apply Fin.ext
  have : (y 1).val < 128 := (y 1).isLt
  show g.toNat / 128 * 128 + (y 1).val = (g.toNat / 128 * 128 + (y 1).val) % 1000064
  omega

/-- Reading the result's scratch whole is reading its contents. -/
theorem rows_read (f : S48x512.Idx → Elt F .f32) :
    (rowsV.access (.whole S48x512)).read (Elt F) f = f := by
  funext x
  exact (View.read_apply _ _).trans ((cast_eq _ _).trans (congrArg f (Rect.emb_whole_apply S48x512 x)))

/-- Writing it whole leaves what is written. -/
theorem rows_write (f w : S48x512.Idx → Elt F .f32) :
    (rowsV.access (.whole S48x512)).write (Elt F) f w Finset.univ = w := by
  funext x
  have h := View.write_emb_of_mem (Val := Elt F) (v := rowsV.access (.whole S48x512)) f w (Finset.mem_univ x)
  have he : (rowsV.access (.whole S48x512)).emb x = x := Rect.emb_whole_apply S48x512 x
  rw [he] at h
  exact h.trans (cast_eq _ _)

/-- Reading the slab whole is reading its contents. -/
theorem slab_read (f : S16x48x128.Idx → Elt F .f32) :
    slabV.view.readAt (Elt F) (LoadRect.whole S16x48x128) f = f := by
  funext x
  show f _ = f _
  congr 1
  funext a
  exact Fin.ext (by show 0 + 1 * (x a).val = (x a).val; omega)

/-- The tile's index number `n`. -/
abbrev ix (A : S512.Idx → BitVec 32) (n : ℕ) : BitVec 32 :=
  A (ix1 (n0 := 512) ⟨n % 512, Nat.mod_lt _ (by decide)⟩)

/-- Sixteen indices read at once. -/
theorem read_idx (A : S512.Idx → BitVec 32) (off : Fin 1 → Nat) (h : ∀ a, off a + S16.size a ≤ S512.size a)
    (n : ℕ) (hn : off = ![n]) (s : Fin 16) :
    (idxV.view.readAt (Elt F) (Rect.unit (s := S512) off S16.size h).toLoadRect A)
      (Shape.ofLane (d := ![16]) s) = ix A (n + s.val) := by
  subst hn
  have hb : n + 16 ≤ 512 := h 0
  show A _ = A _
  congr 1
  funext a
  match a with
  | 0 =>
    apply Fin.ext
    show n + 1 * s.val = (n + s.val) % 512
    omega

/-- The first `m` pieces of the result's columns are done: each column in three pieces of sixteen rows. -/
def Done (T : S48x1000064.Idx → Elt F .f32) (A : S512.Idx → BitVec 32) (m : ℕ)
    (f : S48x512.Idx → Elt F .f32) : Prop :=
  ∀ x : S48x512.Idx, 3 * (x 1).val + (x 0).val / 16 < m →
    f x = T (ix2 (n0 := 48) (n1 := 1000064) (x 0)
      ⟨(ix A (x 1).val).toNat % 1000064, Nat.mod_lt _ (by decide)⟩)

/-- Taking one piece of a slot's column to the result. -/
theorem done_step (T : S48x1000064.Idx → Elt F .f32) (A : S512.Idx → BitVec 32)
    (hA : ∀ n, (A n).toNat < 1000000) (f : S16x48x128.Idx → Elt F .f32)
    (vs vl vc vr : IVec S16 32) (w : k0_chk17 vs vl vc vr) (s : Fin 16) (j : Fin 3) (n : ℕ) (hn : n < 512)
    (hvs : ∀ x, (vs x).toNat = s.val) (hvl : ∀ x, (vl x).toNat = (ix A n).toNat % 128)
    (hvc : ∀ x, (vc x).toNat = n) (hvr : ∀ x : S16.Idx, (vr x).toNat = 16 * j.val + (x 0).val)
    (hf : ∀ x ∈ slotSet s, f x = blockOf T (ix A n) x)
    (fr : S48x512.Idx → Elt F .f32) (hd : Done T A (3 * n + j.val) fr) :
    Done T A (3 * n + j.val + 1)
      (storeIdx (s := S48x512) (e := .f32) (F := F) fr ![vr, vc] (loadIdx (s := S16x48x128) (e := .f32) (F := F) f ![vs, vr, vl] (k0_idx1_inb vs vl vc vr w))
        (fun _ => 1#1) false (k0_idx2_inb vs vl vc vr w)) := by
  have h0 : ∀ x : S16.Idx, ((idxAt (s := S48x512) ![vr, vc] (k0_idx2_inb vs vl vc vr w) x) 0).val
      = 16 * j.val + (x 0).val := fun x => hvr x
  have h1 : ∀ x : S16.Idx, ((idxAt (s := S48x512) ![vr, vc] (k0_idx2_inb vs vl vc vr w) x) 1).val
      = n := fun x => hvc x
  intro x hx
  have hx0 : (x 0).val < 48 := (x 0).isLt
  have hj := j.isLt
  by_cases hc : (x 1).val = n ∧ (x 0).val / 16 = j.val
  · have hxe : x = idxAt (s := S48x512) ![vr, vc] (k0_idx2_inb vs vl vc vr w)
        (Shape.ofLane (d := ![16]) ⟨(x 0).val % 16, Nat.mod_lt _ (by decide)⟩) := by
      funext a
      apply Fin.ext
      match a with
      | 0 =>
        refine Eq.trans ?_ (h0 _).symm
        show (x 0).val = 16 * j.val + (x 0).val % 16
        omega
      | 1 => exact hc.1.trans (h1 _).symm
    have hinj : ∀ y z : S16.Idx, idxAt (s := S48x512) ![vr, vc] (k0_idx2_inb vs vl vc vr w) y
        = idxAt (s := S48x512) ![vr, vc] (k0_idx2_inb vs vl vc vr w) z → y = z := by
      intro y z e
      have e0 := congrArg (fun q : S48x512.Idx => (q 0).val) e
      simp only [h0] at e0
      funext a
      match a with
      | 0 => exact Fin.ext (by omega)
    have hit := storeIdx_hit (F := F) (s := S48x512) (e := .f32) fr ![vr, vc]
      (loadIdx (s := S16x48x128) (e := .f32) (F := F) f ![vs, vr, vl] (k0_idx1_inb vs vl vc vr w))
      (k0_idx2_inb vs vl vc vr w) hinj (d := ![16]) ⟨(x 0).val % 16, Nat.mod_lt _ (by decide)⟩
    have hcol : ix A (x 1).val = ix A n := by rw [hc.1]
    refine (congrArg _ hxe).trans (hit.trans ?_)
    unfold loadIdx
    rw [hf _ (mem_slotSet.mpr (Fin.ext (hvs _)))]
    unfold blockOf
    congr 2
    · apply Fin.ext
      show (vr _).toNat = _
      rw [hvr]
      show 16 * j.val + (x 0).val % 16 = (x 0).val
      omega
    · have hg := hA (ix1 (n0 := 512) ⟨n % 512, Nat.mod_lt _ (by decide)⟩)
      apply Fin.ext
      show ((ix A n).toNat / 128 * 128 + (vl _).toNat) % 1000064 = (ix A (x 1).val).toNat % 1000064
      rw [hcol, hvl]
      omega
  · rw [storeIdx_miss]
    · exact hd x (by omega)
    · intro y e
      have e0 := congrArg (fun q : S48x512.Idx => (q 0).val) e
      have e1 := congrArg (fun q : S48x512.Idx => (q 1).val) e
      simp only [h0, h1] at e0 e1
      have hy : (y 0).val < 16 := (y 0).isLt
      exact hc ⟨e1.symm, by omega⟩

end Cert.KernelIdeal.Views

end
-- ==== Proof.Ideal.Steps.lean ====
/-
The steps of one tile: a copy of a column block into a slot, the wait for a half of the slab, the
loads of the indices, and the extraction of a column.
-/
module

public import proofs.«01_k».proof.Proof.Slab
public import proofs.«01_k».proof.Proof.Ideal.Views
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.KernelIdeal.Steps

open Cert.KernelIdeal Cert.KernelIdeal.Gen Cert.KernelIdeal.Body Cert.KernelIdeal.Words Cert.KernelIdeal.Views
open Cert.Proof
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c →
      sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## Families of assertions -/

section Families

variable {M : Type} [URA M] {n : ℕ}

/-- One member of a family, and the way back. -/
theorem focus (Φ : Fin n → sProp M) (k : Fin n) :
    bigSep Finset.univ Φ ⊢ iprop(Φ k ∗ (Φ k -∗ bigSep Finset.univ Φ)) := by
  rw [SparseCore.bigSep_erase' (Finset.mem_univ k)]
  iintro ⟨H, Hr⟩
  isplitl [H]; · iexact H
  iintro H
  isplitl [H] <;> iassumption

/-- A family of which the first `j` members have been exchanged. -/
def mixed (Φ Ψ : Fin n → sProp M) (j : ℕ) : sProp M :=
  bigSep Finset.univ fun i => if i.val < j then Ψ i else Φ i

theorem mixed_zero (Φ Ψ : Fin n → sProp M) : mixed Φ Ψ 0 = bigSep Finset.univ Φ :=
  bigSep_congr fun i _ => if_neg (Nat.not_lt_zero _)

theorem mixed_all (Φ Ψ : Fin n → sProp M) : mixed Φ Ψ n = bigSep Finset.univ Ψ :=
  bigSep_congr fun i _ => if_pos i.isLt

theorem mixed_step (Φ Ψ : Fin n → sProp M) (k : Fin n) :
    mixed Φ Ψ k.val ⊢ iprop(Φ k ∗ (Ψ k -∗ mixed Φ Ψ (k.val + 1))) := by
  unfold mixed
  rw [SparseCore.bigSep_erase' (Finset.mem_univ k), if_neg (Nat.lt_irrefl _),
    SparseCore.bigSep_erase' (s := Finset.univ) (i := k) (Finset.mem_univ k)
      (Φ := fun i => if i.val < k.val + 1 then Ψ i else Φ i), if_pos (Nat.lt_succ_self _)]
  rw [bigSep_congr (s := Finset.univ.erase k)
    (Φ := fun i => if i.val < k.val + 1 then Ψ i else Φ i)
    (Ψ := fun i => if i.val < k.val then Ψ i else Φ i) (fun i hi => by
      have hne : i.val ≠ k.val := fun h => (Finset.mem_erase.mp hi).1 (Fin.ext h)
      by_cases h : i.val < k.val
      · rw [if_pos h, if_pos (by omega)]
      · rw [if_neg h, if_neg (by omega)])]
  iintro ⟨H, Hr⟩
  isplitl [H]; · iexact H
  iintro H
  isplitl [H] <;> iassumption

/-- Two families, joined member by member. -/
theorem zip_family (Φ Ψ Θ : Fin n → sProp M) (h : ∀ k, iprop(Φ k ∗ Ψ k) ⊢ Θ k) :
    iprop(bigSep Finset.univ Φ ∗ bigSep Finset.univ Ψ) ⊢ bigSep Finset.univ Θ :=
  (Entails.of_eq (bigSep_sep Finset.univ Φ Ψ).symm).trans (bigSep_mono fun k _ => h k)

end Families

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev th (d : Dev nD) (L : grid0.Coords) : Thread nD τ := V d (cV L) (jV L)

variable [FloatOps F]

/-- The weakest precondition of a tile's program. -/
abbrev wpT {α : Type} (p : TileProg F L α) (Q : α → sProp 𝕄) : sProp 𝕄 :=
  wp frame (wpE (defs₀ (F := F)) 𝒱₀ (th d L) none) Set.univ p Q

/-- One step of eight is taken by turns. -/
theorem wp_seq8 (M : ℕ → sProp 𝕄) (f : Fin 8 → TileProg F L PUnit)
    (h : ∀ (k : Fin 8) (Q : PUnit → sProp 𝕄),
      M k.val ⊢ iprop((M (k.val + 1) -∗ Q ⟨⟩) -∗ wpT d L (f k) Q)) (Q : PUnit → sProp 𝕄) :
    M 0 ⊢ iprop((M 8 -∗ Q ⟨⟩) -∗ wpT d L (seq8 L f) Q) := by
  unfold seq8
  simp only [wpT, wp_bind]
  iintro H Hk
  iapply (show M 0 ⊢ iprop((M 1 -∗ _) -∗ _) from h 0 _) $$ H
  iintro H
  iapply (show M 1 ⊢ iprop((M 2 -∗ _) -∗ _) from h 1 _) $$ H
  iintro H
  iapply (show M 2 ⊢ iprop((M 3 -∗ _) -∗ _) from h 2 _) $$ H
  iintro H
  iapply (show M 3 ⊢ iprop((M 4 -∗ _) -∗ _) from h 3 _) $$ H
  iintro H
  iapply (show M 4 ⊢ iprop((M 5 -∗ _) -∗ _) from h 4 _) $$ H
  iintro H
  iapply (show M 5 ⊢ iprop((M 6 -∗ _) -∗ _) from h 5 _) $$ H
  iintro H
  iapply (show M 6 ⊢ iprop((M 7 -∗ _) -∗ _) from h 6 _) $$ H
  iintro H
  iapply (show M 7 ⊢ iprop((M 8 -∗ _) -∗ _) from h 7 _) $$ H
  iintro H
  iapply Hk; iexact H

abbrev tblLoc (d : Dev nD) (L : grid0.Coords) : Loc nD τ sig := tV.view.loc (th d L)
abbrev slabLoc (d : Dev nD) (L : grid0.Coords) : Loc nD τ sig := slabV.view.loc (th d L)
abbrev rowsLoc (d : Dev nD) (L : grid0.Coords) : Loc nD τ sig := rowsV.view.loc (th d L)
abbrev idxLoc (d : Dev nD) (L : grid0.Coords) : Loc nD τ sig := idxV.view.loc (th d L)

/-- What the arrival of one column block is worth on its semaphore. -/
abbrev credit : ℕ := (slotRef slabV 0).view.dmaCredit

theorem credit_slot (s : Fin 16) (sm : DmaSem sig) :
    (slotRef slabV s).view.amount (SemLoc.dma sm) = credit := rfl

theorem credit_half (h : Fin 2) :
    (slabV.slice (Rect.unit (s := S16x48x128) ![8 * h.val, 0, 0] S8x48x128.size (half_inb h))
      (fun _ => rfl)).view.dmaCredit = credit * 8 := by
  revert h; decide +kernel

theorem credit_pos : 0 < credit := by decide +kernel

variable (T : S48x1000064.Idx → Elt F .f32) (q : PosShare TreeShare) (γ : Fin 16 → ℕ)

/-- One slot's read share of the table. -/
abbrev sh (q : PosShare TreeShare) (s : Fin 16) : PosShare TreeShare := leaf 4 q s

/-- One slot at rest, at the given contents: its token, its half share. -/
abbrev slot (s : Fin 16) (f : S16x48x128.Idx → Elt F .f32) : sProp 𝕄 :=
  iprop(tok EC (γ s) ∗ slabLoc d L ↦[slotSet s]{fullShare.right} f)

/-- What the copy of a block brings back. -/
abbrev landed (s : Fin 16) (g : BitVec 32) (hg : g.toNat < 1000000) : sProp 𝕄 :=
  iprop(slot d L γ s (blockOf T g) ∗ tblLoc d L ↦[(blk g hg).view.set]{sh q s} T)

/-- What is left of a slot's share of the table while the block is copied. -/
abbrev left (s : Fin 16) (g : BitVec 32) (hg : g.toNat < 1000000) : sProp 𝕄 :=
  iprop(tblLoc d L ↦[Finset.univ \ (blk g hg).view.set]{sh q s} T)

/-- A slot before a copy into it. -/
abbrev idle (s : Fin 16) : sProp 𝕄 :=
  iprop((∃ f, slot d L γ s f) ∗ tblLoc d L ↦{sh q s} T)

/-- A slot that holds the block of `g`. -/
abbrev full (s : Fin 16) (g : BitVec 32) : sProp 𝕄 :=
  iprop(slot d L γ s (blockOf T g) ∗ tblLoc d L ↦{sh q s} T)

theorem full_idle (s : Fin 16) (g : BitVec 32) : full d L T q γ s g ⊢ idle d L T q γ s := by
  iintro ⟨Hs, Ht⟩
  isplitl [Hs]
  · iexists _; iexact Hs
  · iexact Ht

theorem landed_full (s : Fin 16) (g : BitVec 32) (hg : g.toNat < 1000000) :
    iprop(landed d L T q γ s g hg ∗ left d L T q s g hg) ⊢ full d L T q γ s g := by
  iintro ⟨⟨Hs, Ht⟩, Hl⟩
  isplitl [Hs]; · iexact Hs
  iapply (pointsTo_split_subset (Finset.subset_univ _)).2
  isplitl [Ht] <;> iassumption

variable (κ : ℕ)

/-- The slab's invariant. -/
abbrev slabInv : sProp 𝕄 := inv κ (Slab.body EC (Val := Elt F) (slabLoc d L) γ)

set_option maxHeartbeats 1000000 in
/-- One copy is issued. -/
theorem wp_fire (sm : DmaSems sig S_) (chk : BitVec 32 → Prop) (dec : ∀ g, Decidable (chk g))
    (inb : ∀ g, chk g → ∀ a, k0_off2 g a + S48x128.size a ≤ S48x1000064.size a)
    (hchk : ∀ g : BitVec 32, g.toNat < 1000000 → chk g) (v : IVec S16 32) (s : Fin 16) (g : BitVec 32)
    (hg : g.toNat < 1000000) (hv : lane v s = g) {n : ℕ} {Dl : Fin n → sProp 𝕄} {j : ℕ} (hj : j < n)
    (hD : Dl ⟨j, hj⟩ = landed d L T q γ s g hg) (ι : HIx 1) (Q : PUnit → sProp 𝕄) :
    iprop(slabInv (F := F) d L γ κ ∗ idle d L T q γ s ∗ Batch EC (th d L) (.dma sm.sem) ι credit Dl j 0)
      ⊢ iprop((iprop(left d L T q s g hg ∗ Batch EC (th d L) (.dma sm.sem) ι credit Dl (j + 1) 0) -∗ Q ⟨⟩)
          -∗ wpT d L (fire L tV slabV sm chk dec inb v s) Q) := by
  subst hv
  unfold fire
  simp only [wpT, wp_bind]
  iintro ⟨#Hinv, ⟨⟨%f, Hs⟩, Ht⟩, HB⟩ Hk
  iapply (wp_assume 𝒱₀ (th d L) none Set.univ (hchk _ hg))
  rw [wp_ret]
  imodintro
  ihave Ht' := (pointsTo_split_subset (Finset.subset_univ (blk (lane v s) hg).view.set)).1 $$ Ht
  icases Ht' with ⟨Ht, Hl⟩
  iapply (Slab.wp_copyShared EC 𝒱₀ (th d L) none (src := blk (lane v s) hg) (dst := slotRef slabV s) (n' := 16) (γ := γ) (κ := κ) (S := slotSet s) (fd := f)
    s ι credit (credit_slot s _) subset_rfl hj ?_) $$ [Hs Ht HB]
  rotate_left
  · isplitr; · iexact Hinv
    isplitl [Ht]; · iexact Ht
    isplitl [Hs]; · iexact Hs
    iexact HB
  · iintro HB
    rw [wp_ret]
    imodintro
    iapply Hk
    isplitl [Hl] <;> iassumption
  · rw [hD]
    exact sep_mono_l (sep_mono_r (Entails.of_eq (pointsTo_congr (fun x hx => write_block T f hg s x hx))))

variable (A : S512.Idx → BitVec 32) (hA : ∀ n, (A n).toNat < 1000000)

/-- What the eight copies of one half bring, by trip. -/
abbrev deliv (h : Fin 2) (t : ℕ) (k : Fin 8) : sProp 𝕄 :=
  landed d L T q γ (slotOf h k) (ix A (16 * t + (slotOf h k).val)) (hA _)

/-- A half whose eight copies are on their way. -/
def flying (sm : DmaSems sig S_) (h : Fin 2) (t : ℕ) : sProp 𝕄 :=
  iprop(Batch EC (th d L) (.dma sm.sem) (none : HIx 1) credit (deliv d L T q γ A hA h t) 8 0
    ∗ bigSep Finset.univ fun k : Fin 8 =>
        left d L T q (slotOf h k) (ix A (16 * t + (slotOf h k).val)) (hA _))

/-- A half into which no copy is on its way. -/
def empty (sm : DmaSems sig S_) (h : Fin 2) : sProp 𝕄 :=
  iprop(semVal (th d L, .dma sm.sem) 0 ∗ bigSep Finset.univ fun k : Fin 8 => idle d L T q γ (slotOf h k))

/-- A half whose slots hold trip `t`'s blocks. -/
def ready (sm : DmaSems sig S_) (h : Fin 2) (t : ℕ) : sProp 𝕄 :=
  iprop(semVal (th d L, .dma sm.sem) 0 ∗ bigSep Finset.univ fun k : Fin 8 =>
    full d L T q γ (slotOf h k) (ix A (16 * t + (slotOf h k).val)))

theorem ready_empty (sm : DmaSems sig S_) (h : Fin 2) (t : ℕ) :
    ready d L T q γ A sm h t ⊢ empty d L T q γ sm h := by
  unfold ready empty
  exact sep_mono_r (bigSep_mono fun k _ => full_idle d L T q γ _ _)

set_option maxHeartbeats 1000000 in
/-- The eight copies of one half. -/
theorem wp_fires (sm : DmaSems sig S_) (chk : BitVec 32 → Prop) (dec : ∀ g, Decidable (chk g))
    (inb : ∀ g, chk g → ∀ a, k0_off2 g a + S48x128.size a ≤ S48x1000064.size a)
    (hchk : ∀ g : BitVec 32, g.toNat < 1000000 → chk g) (v : IVec S16 32) (h : Fin 2) (t : ℕ)
    (hv : ∀ s : Fin 16, v (Shape.ofLane (d := ![16]) s) = ix A (16 * t + s.val)) (Q : PUnit → sProp 𝕄) :
    iprop(slabInv (F := F) d L γ κ ∗ empty d L T q γ sm h)
      ⊢ iprop((flying d L T q γ A hA sm h t -∗ Q ⟨⟩)
          -∗ wpT d L (seq8 L fun k => fire L tV slabV sm chk dec inb v (slotOf h k)) Q) := by
  unfold empty flying
  iintro ⟨#Hinv, Hsem, Hi⟩ Hk
  imod (batch_alloc' (Lvl := ℕ) EC (th d L) (none : HIx 1) credit (deliv d L T q γ A hA h t)
    (sm := .dma sm.sem) (E := Set.univ)) $$ Hsem with HB
  iapply (wp_seq8 d L (fun j => iprop(slabInv (F := F) d L γ κ
      ∗ Batch EC (th d L) (.dma sm.sem) (none : HIx 1) credit (deliv d L T q γ A hA h t) j 0
      ∗ mixed (fun k : Fin 8 => idle d L T q γ (slotOf h k))
          (fun k : Fin 8 => left d L T q (slotOf h k) (ix A (16 * t + (slotOf h k).val)) (hA _)) j))
    (fun k => fire L tV slabV sm chk dec inb v (slotOf h k)) ?_ Q) $$ [HB Hi]
  rotate_left
  · isplitr; · iexact Hinv
    isplitl [HB]; · iexact HB
    rw [mixed_zero]; iexact Hi
  · iintro ⟨-, HB, Hi⟩
    iapply Hk
    isplitl [HB]; · iexact HB
    iapply (Entails.of_eq (mixed_all _ _)) $$ Hi
  · intro k Q
    iintro ⟨#Hinv, HB, Hi⟩ Hk
    ihave Hi' := (mixed_step _ _ k) $$ Hi
    icases Hi' with ⟨Hi, Hback⟩
    iapply (wp_fire d L T q γ κ sm chk dec inb hchk v (slotOf h k) _ (hA _)
      ((lane_eq v _).trans (hv _)) (Dl := deliv d L T q γ A hA h t) k.isLt rfl (none : HIx 1) Q) $$ [Hi HB]
    · isplitr; · iexact Hinv
      isplitl [Hi] <;> iassumption
    iintro ⟨Hl, HB⟩
    iapply Hk
    isplitr; · iexact Hinv
    isplitl [HB]; · iexact HB
    iapply Hback; iexact Hl

set_option maxHeartbeats 1000000 in
/-- The wait for the eight copies of one half. -/
theorem wp_drain (sm : DmaSems sig S_) (h : Fin 2) (t : ℕ) (O : CellTallies nD τ sig (HIx 1))
    (W : Waits sig (HIx 1)) (Q : PUnit → sProp 𝕄) :
    iprop(flying d L T q γ A hA sm h t ∗ owes (th d L) O W ∗ MayWaits (th d L) (none : HIx 1) O)
      ⊢ iprop((iprop(ready d L T q γ A sm h t ∗ owes (th d L) O (insert (SemLoc.dma sm.sem, none) W)) -∗ Q ⟨⟩)
          -∗ wpT d L (drain L tV slabV sm h) Q) := by
  unfold flying ready drain
  iintro ⟨⟨HB, Hl⟩, HO, Hmw⟩ Hk
  ihave Hmw' := (MayWaits.elim (SemLoc.dma sm.sem)) $$ Hmw
  iapply (wp_waitBatchAllO EC 𝒱₀ (th d L) none (none : HIx 1) (credit_half h) credit_pos
    (Nat.zero_add _)) $$ [HB HO Hmw']
  · isplitl [HB]; · iexact HB
    isplitl [HO] <;> iassumption
  iintro ⟨Hd, Hsem, HO⟩
  rw [wp_ret]
  imodintro
  iapply Hk
  isplitr [HO]
  · isplitl [Hsem]; · iexact Hsem
    iapply (zip_family (deliv d L T q γ A hA h t) _ _ fun k => landed_full d L T q γ _ _ (hA _)) $$ [Hd Hl]
    isplitl [Hd] <;> iassumption
  · iexact HO

/-- Sixteen indices are loaded. -/
theorem wp_loadIdx16 (off : Fin 1 → Nat) (hb : ∀ a, off a + S16.size a ≤ S512.size a) (n : ℕ)
    (hn : off = ![n]) (hl : idxV.view.LoadsAt (Rect.unit (s := S512) off S16.size hb).toLoadRect)
    (Q : Vec F S16 .i32 → sProp 𝕄) :
    iprop(idxLoc d L ↦{fullShare} A)
      ⊢ iprop((∀ v : Vec F S16 .i32, ⌜∀ s : Fin 16, v (Shape.ofLane (d := ![16]) s) = ix A (n + s.val)⌝
            -∗ (idxLoc d L ↦{fullShare} A) -∗ Q v)
          -∗ wpT d L (Prog.lift (.load idxV (Rect.unit (s := S512) off S16.size hb).toLoadRect hl)) Q) := by
  iintro H Hk
  iapply (wp_load_rect 𝒱₀ (th d L) none Set.univ (m := idxV)
    (r := Rect.unit (s := S512) off S16.size hb) (S := Finset.univ) (f := A) (q := fullShare) (Finset.subset_univ _)) $$ H
  iintro H
  rw [wp_ret]
  imodintro
  iapply Hk $$ %_ [] H
  ipureintro
  exact read_idx (F := F) A off hb n hn

/-- The first `m` pieces of the result's columns stand in the tile's scratch. -/
abbrev rowsDone (m : ℕ) : sProp 𝕄 :=
  iprop(∃ f, ⌜Done T A m f⌝ ∗ rowsLoc d L ↦{fullShare} f)

include hA

set_option maxHeartbeats 1000000 in
/-- One piece of a slot's column is taken. -/
theorem wp_ext (vs vl vc vr : IVec S16 32) (w : k0_chk17 vs vl vc vr) (s : Fin 16) (j : Fin 3) (n m : ℕ)
    (hn : n < 512) (hm : m = 3 * n + j.val)
    (hvs : ∀ x, (vs x).toNat = s.val) (hvl : ∀ x, (vl x).toNat = (ix A n).toNat % 128)
    (hvc : ∀ x, (vc x).toNat = n) (hvr : ∀ x : S16.Idx, (vr x).toNat = 16 * j.val + (x 0).val)
    (Q : PUnit → sProp 𝕄) :
    iprop(slabInv (F := F) d L γ κ ∗ slot d L γ s (blockOf T (ix A n)) ∗ rowsDone d L T A m)
      ⊢ iprop((iprop(slot d L γ s (blockOf T (ix A n)) ∗ rowsDone d L T A (m + 1)) -∗ Q ⟨⟩)
          -∗ wpT d L (ext L slabV rowsV vs vl vc vr) Q) := by
  subst hm
  unfold ext
  simp only [wpT, wp_bind]
  iintro ⟨#Hinv, ⟨Htok, Hs⟩, ⟨%fr, %hd, Hr⟩⟩ Hk
  iapply (wp_assume 𝒱₀ (th d L) none Set.univ w)
  rw [wp_ret]
  imodintro
  iapply (Slab.wp_loadShared EC 𝒱₀ (th d L) none (m := slabV) (γ := γ) (κ := κ) s) $$ [Htok Hs]
  · isplitr; · iexact Hinv
    isplitl [Htok] <;> iassumption
  iintro %f %hf ⟨Htok, Hs⟩
  rw [wp_ret]
  imodintro
  have hset : (rowsV.access (.whole S48x512)).set = Finset.univ := by
    show ((View.whole cc0_scratch2).slice (.whole S48x512)).set = _
    rw [View.set_slice_whole]
    exact Rect.set_whole _
  iapply (SparseCore.wp_vectorStoreIdx 𝒱₀ (th d L) none Set.univ (base := rowsV) (f := fr) (k := Prog.ret)) $$ [Hr]
  · rw [hset]; iexact Hr
  iintro Hr
  rw [wp_ret]
  imodintro
  iapply Hk
  isplitl [Htok Hs]
  · isplitl [Htok] <;> iassumption
  iexists _
  isplitr [Hr]
  rotate_left
  · rw [hset]; iexact Hr
  ipureintro
  have h := done_step T A hA f vs vl vc vr w s j n hn hvs hvl hvc hvr hf fr hd
  have hr : rowsV.view.readAt (Elt F) (LoadRect.whole S48x512) fr = fr := rows_read fr
  refine (congrArg (Done T A _) ?_).mp h
  refine Eq.trans ?_ (rows_write (F := F) fr _).symm
  rw [rows_read]
  exact congrArg (fun z => storeIdx (s := S48x512) (e := .f32) (F := F) fr ![vr, vc]
    (loadIdx (s := S16x48x128) (e := .f32) (F := F) z ![vs, vr, vl] (k0_idx1_inb vs vl vc vr w))
    (fun _ => 1#1) false (k0_idx2_inb vs vl vc vr w)) (slab_read (F := F) f).symm

set_option maxHeartbeats 1000000 in
/-- The column of one slot is taken: its three pieces. -/
theorem wp_ext3 (sm : DmaSems sig S_) (v : IVec S16 32) (t : Fin k0_t1_loop.trips)
    (hv : ∀ s : Fin 16, v (Shape.ofLane (d := ![16]) s) = ix A (16 * t.val + s.val)) (h : Fin 2) (k : Fin 8)
    (m m' : ℕ) (hm : m = 3 * (16 * t.val + (slotOf h k).val)) (hm' : m' = m + 3) (Q : PUnit → sProp 𝕄) :
    iprop(slabInv (F := F) d L γ κ ∗ ready d L T q γ A sm h t.val ∗ rowsDone d L T A m)
      ⊢ iprop((iprop(ready d L T q γ A sm h t.val ∗ rowsDone d L T A m') -∗ Q ⟨⟩)
          -∗ wpT d L (ext L slabV rowsV (vSlot h k) (vLane (low v) h k) (vCol (Scf.iv 0#32 1#32 t) h k)
              (vRow (iota .scVector S16 32 [0] iota_S16_d0_w32_scVector) 0)) fun _ =>
            wpT d L (ext L slabV rowsV (vSlot h k) (vLane (low v) h k) (vCol (Scf.iv 0#32 1#32 t) h k)
              (vRow (iota .scVector S16 32 [0] iota_S16_d0_w32_scVector) 1)) fun _ =>
            wpT d L (ext L slabV rowsV (vSlot h k) (vLane (low v) h k) (vCol (Scf.iv 0#32 1#32 t) h k)
              (vRow (iota .scVector S16 32 [0] iota_S16_d0_w32_scVector) 2)) Q) := by
  have ht : t.val < 32 := lt_of_lt_of_eq t.isLt trips_eq
  have hs := (slotOf h k).isLt
  have step (j : Fin 3) (m : ℕ) (hm : m = 3 * (16 * t.val + (slotOf h k).val) + j.val) (Q : PUnit → sProp 𝕄) :=
    wp_ext d L T γ κ A hA (vSlot h k) (vLane (low v) h k) (vCol (Scf.iv 0#32 1#32 t) h k)
      (vRow (iota .scVector S16 32 [0] iota_S16_d0_w32_scVector) j) (chk17 v t h k j) (slotOf h k) j
      (16 * t.val + (slotOf h k).val) m (by omega) hm (vSlot_toNat h k)
      (fun x => by rw [vLane_toNat, hv]) (vCol_toNat t h k) (vRow_toNat j) Q
  subst hm'
  unfold ready
  iintro ⟨#Hinv, ⟨Hsem, Hall⟩, Hr⟩ Hk
  ihave Hall' := (focus (fun k : Fin 8 => full d L T q γ (slotOf h k) (ix A (16 * t.val + (slotOf h k).val))) k) $$ Hall
  icases Hall' with ⟨⟨Hs, Ht⟩, Hback⟩
  iapply (step 0 m (by omega)) $$ [Hs Hr]
  · isplitr; · iexact Hinv
    isplitl [Hs] <;> iassumption
  iintro ⟨Hs, Hr⟩
  iapply (step 1 (m + 1) (by omega)) $$ [Hs Hr]
  · isplitr; · iexact Hinv
    isplitl [Hs] <;> iassumption
  iintro ⟨Hs, Hr⟩
  iapply (step 2 (m + 1 + 1) (by omega)) $$ [Hs Hr]
  · isplitr; · iexact Hinv
    isplitl [Hs] <;> iassumption
  iintro ⟨Hs, Hr⟩
  iapply Hk
  isplitr [Hr]
  · isplitl [Hsem]; · iexact Hsem
    iapply Hback
    isplitl [Hs] <;> iassumption
  · iexact Hr

/-- The same, as the program names it. -/
theorem wp_extract (sm : DmaSems sig S_) (v : IVec S16 32) (t : Fin k0_t1_loop.trips)
    (hv : ∀ s : Fin 16, v (Shape.ofLane (d := ![16]) s) = ix A (16 * t.val + s.val)) (h : Fin 2) (k : Fin 8)
    (m m' : ℕ) (hm : m = 3 * (16 * t.val + (slotOf h k).val)) (hm' : m' = m + 3) (Q : PUnit → sProp 𝕄) :
    iprop(slabInv (F := F) d L γ κ ∗ ready d L T q γ A sm h t.val ∗ rowsDone d L T A m)
      ⊢ iprop((iprop(ready d L T q γ A sm h t.val ∗ rowsDone d L T A m') -∗ Q ⟨⟩)
          -∗ wpT d L (extract L slabV rowsV (iota .scVector S16 32 [0] iota_S16_d0_w32_scVector)
              (Scf.iv 0#32 1#32 t) (low v) h k) Q) := by
  unfold extract
  simp only [wpT, wp_bind]
  exact wp_ext3 d L T q γ κ A hA sm v t hv h k m m' hm hm' Q

end Tile

end Cert.KernelIdeal.Steps

end
-- ==== Proof.Ideal.Trip.lean ====
/-
One trip of the loop, and the loop.
-/
module

public import proofs.«01_k».proof.Proof.Ideal.Steps

@[expose] public section

noncomputable section

namespace Cert.KernelIdeal.Trip

open Cert.KernelIdeal Cert.KernelIdeal.Gen Cert.KernelIdeal.Body Cert.KernelIdeal.Words Cert.KernelIdeal.Views Cert.KernelIdeal.Steps
open Cert.Proof
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The numbers of the lanes. -/
abbrev lanes : IVec S16 32 := iota .scVector S16 32 [0] iota_S16_d0_w32_scVector

variable (d : Dev nD) (L : grid0.Coords) [FloatOps F]
variable (T : S48x1000064.Idx → Elt F .f32) (q : PosShare TreeShare) (γ : Fin 16 → ℕ) (κ : ℕ)
variable (A : S512.Idx → BitVec 32) (hA : ∀ n, (A n).toNat < 1000000)
variable (O : CellTallies nD τ sig (HIx 1)) (W : Waits sig (HIx 1))

/-- What the tile still owes, after any number of its own waits. -/
abbrev dues : sProp 𝕄 :=
  iprop(∃ W', ⌜∀ p ∈ W', p ∈ W ∨ p.2 = none⌝ ∗ owes (th d L) O W')

/-- One half of the slab before trip `t`: its copies are on their way, or no trip is left. -/
def half (sm : DmaSems sig S_) (h : Fin 2) (t : ℕ) : sProp 𝕄 :=
  if t < 32 then flying d L T q γ A hA sm h t else empty d L T q γ sm h

theorem half_flying (sm : DmaSems sig S_) (h : Fin 2) {t : ℕ} (ht : t < 32) :
    half d L T q γ A hA sm h t = flying d L T q γ A hA sm h t := if_pos ht

theorem half_empty (sm : DmaSems sig S_) (h : Fin 2) {t : ℕ} (ht : ¬t < 32) :
    half d L T q γ A hA sm h t = empty d L T q γ sm h := if_neg ht

/-- What both halves of the work share. -/
abbrev base : sProp 𝕄 := iprop(slabInv (F := F) d L γ κ ∗ MayWaits (th d L) (none : HIx 1) O)

set_option maxHeartbeats 1000000 in
theorem wp_wait (sm : DmaSems sig S_) (h : Fin 2) (t : ℕ) (Q : PUnit → sProp 𝕄) :
    iprop(MayWaits (th d L) (none : HIx 1) O ∗ flying d L T q γ A hA sm h t ∗ dues d L O W)
      ⊢ iprop((iprop(ready d L T q γ A sm h t ∗ dues d L O W) -∗ Q ⟨⟩)
          -∗ wpT d L (drain L tV slabV sm h) Q) := by
  iintro ⟨Hmw, Hf, ⟨%W', %hW, HO⟩⟩ Hk
  iapply (wp_drain d L T q γ A hA sm h t O W' Q) $$ [Hmw Hf HO]
  · isplitl [Hf]; · iexact Hf
    isplitl [HO] <;> iassumption
  iintro ⟨Hr, HO⟩
  iapply Hk
  isplitl [Hr]; · iexact Hr
  iexists _
  isplitr; rotate_left; · iexact HO
  ipureintro
  intro p hp
  rcases Finset.mem_insert.mp hp with rfl | hp
  · exact Or.inr rfl
  · exact hW p hp

include hA in
/-- A slot's column is taken, counted by pieces. -/
theorem wp_take (sm : DmaSems sig S_) (v : IVec S16 32) (t : Fin k0_t1_loop.trips)
    (hv : ∀ s : Fin 16, v (Shape.ofLane (d := ![16]) s) = ix A (16 * t.val + s.val)) (h : Fin 2) (k : Fin 8)
    (s m : ℕ) (hs : (slotOf h k).val = s) (hm : m = 48 * t.val + 3 * s) (Q : PUnit → sProp 𝕄) :
    iprop(slabInv (F := F) d L γ κ ∗ ready d L T q γ A sm h t.val ∗ rowsDone d L T A m)
      ⊢ iprop((iprop(ready d L T q γ A sm h t.val ∗ rowsDone d L T A (m + 3)) -∗ Q ⟨⟩)
          -∗ wpT d L (extract L slabV rowsV lanes (Scf.iv 0#32 1#32 t) (low v) h k) Q) :=
  wp_extract d L T q γ κ A hA sm v t hv h k m (m + 3) (by omega) rfl Q

set_option maxHeartbeats 1000000 in
/-- Seven steps, one after the other. -/
theorem wp_chain7 (M : ℕ → sProp 𝕄) (p : Fin 7 → TileProg F L PUnit)
    (h : ∀ (k : Fin 7) (Q : PUnit → sProp 𝕄),
      M k.val ⊢ iprop((M (k.val + 1) -∗ Q ⟨⟩) -∗ wpT d L (p k) Q)) (Q : PUnit → sProp 𝕄) :
    M 0 ⊢ iprop((M 7 -∗ Q ⟨⟩) -∗ wpT d L (p 0) fun _ => wpT d L (p 1) fun _ => wpT d L (p 2) fun _ =>
      wpT d L (p 3) fun _ => wpT d L (p 4) fun _ => wpT d L (p 5) fun _ => wpT d L (p 6) Q) := by
  iintro H Hk
  iapply (show M 0 ⊢ iprop((M 1 -∗ _) -∗ _) from h 0 _) $$ H
  iintro H
  iapply (show M 1 ⊢ iprop((M 2 -∗ _) -∗ _) from h 1 _) $$ H
  iintro H
  iapply (show M 2 ⊢ iprop((M 3 -∗ _) -∗ _) from h 2 _) $$ H
  iintro H
  iapply (show M 3 ⊢ iprop((M 4 -∗ _) -∗ _) from h 3 _) $$ H
  iintro H
  iapply (show M 4 ⊢ iprop((M 5 -∗ _) -∗ _) from h 4 _) $$ H
  iintro H
  iapply (show M 5 ⊢ iprop((M 6 -∗ _) -∗ _) from h 5 _) $$ H
  iintro H
  iapply (show M 6 ⊢ iprop((M 7 -∗ _) -∗ _) from h 6 _) $$ H
  iintro H
  iapply Hk; iexact H

include hA in
set_option maxHeartbeats 1000000 in
/-- Seven slots' columns are taken, the first of them slot `s₀`. -/
theorem wp_take7 (sm : DmaSems sig S_) (v : IVec S16 32) (t : Fin k0_t1_loop.trips)
    (hv : ∀ s : Fin 16, v (Shape.ofLane (d := ![16]) s) = ix A (16 * t.val + s.val)) (h : Fin 2)
    (r : Fin 7 → Fin 8) (s₀ m m' : ℕ) (hs : ∀ k, (slotOf h (r k)).val = s₀ + k.val) (hm : m = 48 * t.val + 3 * s₀)
    (hm' : m' = m + 21) (Q : PUnit → sProp 𝕄) :
    iprop(slabInv (F := F) d L γ κ ∗ ready d L T q γ A sm h t.val ∗ rowsDone d L T A m)
      ⊢ iprop((iprop(ready d L T q γ A sm h t.val ∗ rowsDone d L T A m') -∗ Q ⟨⟩)
          -∗ wpT d L (extract L slabV rowsV lanes (Scf.iv 0#32 1#32 t) (low v) h (r 0)) fun _ =>
            wpT d L (extract L slabV rowsV lanes (Scf.iv 0#32 1#32 t) (low v) h (r 1)) fun _ =>
            wpT d L (extract L slabV rowsV lanes (Scf.iv 0#32 1#32 t) (low v) h (r 2)) fun _ =>
            wpT d L (extract L slabV rowsV lanes (Scf.iv 0#32 1#32 t) (low v) h (r 3)) fun _ =>
            wpT d L (extract L slabV rowsV lanes (Scf.iv 0#32 1#32 t) (low v) h (r 4)) fun _ =>
            wpT d L (extract L slabV rowsV lanes (Scf.iv 0#32 1#32 t) (low v) h (r 5)) fun _ =>
            wpT d L (extract L slabV rowsV lanes (Scf.iv 0#32 1#32 t) (low v) h (r 6)) Q) := by
  have step := wp_chain7 d L (fun k => iprop(slabInv (F := F) d L γ κ ∗ ready d L T q γ A sm h t.val
      ∗ rowsDone d L T A (m + 3 * k)))
    (fun k => extract L slabV rowsV lanes (Scf.iv 0#32 1#32 t) (low v) h (r k)) (fun k Q => by
      iintro ⟨#Hinv, Hh, Hr⟩ Hk
      iapply (wp_take d L T q γ κ A hA sm v t hv h (r k) (s₀ + k.val) (m + 3 * k.val) (hs k) (by omega) Q) $$ [Hh Hr]
      · isplitr; · iexact Hinv
        isplitl [Hh] <;> iassumption
      iintro ⟨Hh, Hr⟩
      iapply Hk
      isplitr; · iexact Hinv
      isplitl [Hh] <;> iassumption) Q
  subst hm'
  iintro H Hk
  iapply step $$ H
  iintro ⟨-, H⟩
  iapply Hk; iexact H

/-- The first half's next copies, when a trip is left. -/
theorem wp_refire0 (sm : DmaSems sig S_) (t : Fin k0_t1_loop.trips) (Q : PUnit → sProp 𝕄) :
    iprop(slabInv (F := F) d L γ κ ∗ (idxLoc d L ↦{fullShare} A) ∗ empty d L T q γ sm 0)
      ⊢ iprop((iprop((idxLoc d L ↦{fullShare} A) ∗ half d L T q γ A hA sm 0 (t.val + 1)) -∗ Q ⟨⟩)
          -∗ wpT d L (if h1 : k0_cond1 t = 1#1 then refire0 L tV idxV slabV sm t h1 else pure ⟨⟩) Q) := by
  by_cases h1 : k0_cond1 t = 1#1
  · rw [dif_pos h1]
    rw [half_flying d L T q γ A hA sm 0 (by have := (cond1_iff t).mp h1; omega)]
    unfold refire0
    simp only [wpT, wp_bind]
    iintro ⟨#Hinv, HA, He⟩ Hk
    iapply (wp_loadIdx16 d L A (k0_off19 t) (k0_off19_inb t h1) (16 * t.val + 16) (k0_off19_eq t)) $$ HA
    iintro %v %hv HA
    iapply (wp_fires d L T q γ κ A hA sm (k0_chk41 t) (k0_chk41.dec t) (fun g w => k0_off20_inb t g w h1)
      (fun g hg => chk41 t hg) v 0 (t.val + 1) (fun s => by rw [hv]; congr 1)) $$ [He]
    · isplitr; · iexact Hinv
      iexact He
    iintro Hf
    rw [wp_pure]
    imodintro
    iapply Hk
    isplitl [HA] <;> iassumption
  · rw [dif_neg h1]
    rw [half_empty d L T q γ A hA sm 0 (by
      have := mt (cond1_iff t).mpr h1; omega)]
    simp only [wpT, wp_pure]
    iintro ⟨-, HA, He⟩ Hk
    imodintro
    iapply Hk
    isplitl [HA] <;> iassumption

set_option maxHeartbeats 1000000 in
/-- The second half's next copies, when a trip is left. -/
theorem wp_refire1 (sm : DmaSems sig S_) (t : Fin k0_t1_loop.trips) (Q : PUnit → sProp 𝕄) :
    iprop(slabInv (F := F) d L γ κ ∗ (idxLoc d L ↦{fullShare} A) ∗ empty d L T q γ sm 1)
      ⊢ iprop((iprop((idxLoc d L ↦{fullShare} A) ∗ half d L T q γ A hA sm 1 (t.val + 1)) -∗ Q ⟨⟩)
          -∗ wpT d L (if h2 : k0_cond2 t = 1#1 then refire1 L tV idxV slabV sm t h2 else pure ⟨⟩) Q) := by
  by_cases h2 : k0_cond2 t = 1#1
  · rw [dif_pos h2]
    rw [half_flying d L T q γ A hA sm 1 (by have := (cond2_iff t).mp h2; omega)]
    unfold refire1
    simp only [wpT, wp_bind]
    iintro ⟨#Hinv, HA, He⟩ Hk
    iapply (wp_loadIdx16 d L A (k0_off28 t) (k0_off28_inb t h2) (16 * t.val + 16) (k0_off28_eq t)) $$ HA
    iintro %v %hv HA
    iapply (wp_fires d L T q γ κ A hA sm (k0_chk73 t) (k0_chk73.dec t) (fun g w => k0_off29_inb t g w h2)
      (fun g hg => chk73 t hg) v 1 (t.val + 1) (fun s => by rw [hv]; congr 1)) $$ [He]
    · isplitr; · iexact Hinv
      iexact He
    iintro Hf
    rw [wp_pure]
    imodintro
    iapply Hk
    isplitl [HA] <;> iassumption
  · rw [dif_neg h2]
    rw [half_empty d L T q γ A hA sm 1 (by
      have := mt (cond2_iff t).mpr h2; omega)]
    simp only [wpT, wp_pure]
    iintro ⟨-, HA, He⟩ Hk
    imodintro
    iapply Hk
    isplitl [HA] <;> iassumption

set_option maxHeartbeats 1000000 in
/-- From the last extraction of the first half to the wait for the second. -/
theorem wp_middle (sm0 sm1 : DmaSems sig S_) (v : IVec S16 32) (t : Fin k0_t1_loop.trips)
    (hv : ∀ s : Fin 16, v (Shape.ofLane (d := ![16]) s) = ix A (16 * t.val + s.val)) (m : ℕ)
    (hm : m = 48 * t.val + 21)
    (Q : (Σ' (_ : IVec S16 32) (_ : IVec S16 32) (_ : IVec S16 32) (_ : IVec S16 32), BitVec 32) → sProp 𝕄) :
    iprop(base (F := F) d L γ κ O ∗ (idxLoc d L ↦{fullShare} A) ∗ rowsDone d L T A m
        ∗ ready d L T q γ A sm0 0 t.val ∗ flying d L T q γ A hA sm1 1 t.val ∗ dues d L O W)
      ⊢ iprop((iprop((idxLoc d L ↦{fullShare} A) ∗ rowsDone d L T A (m + 3)
            ∗ half d L T q γ A hA sm0 0 (t.val + 1) ∗ ready d L T q γ A sm1 1 t.val ∗ dues d L O W)
              -∗ Q ⟨low v, vSlot 1 0, vLane (low v) 1 0, vCol (Scf.iv 0#32 1#32 t) 1 0, 0#32⟩)
          -∗ wpT d L (middle L tV idxV slabV rowsV sm0 sm1 lanes t (Scf.iv 0#32 1#32 t) v) Q) := by
  have e : middle (F := F) L tV idxV slabV rowsV sm0 sm1 lanes t (Scf.iv 0#32 1#32 t) v
      = (do
        extract L slabV rowsV lanes (Scf.iv 0#32 1#32 t) (low v) 0 7
        (if h1 : k0_cond1 t = 1#1 then refire0 L tV idxV slabV sm0 t h1 else pure ⟨⟩) >>= fun _ =>
          drain L tV slabV sm1 1 >>= fun _ =>
          pure ⟨low v, vSlot 1 0, vLane (low v) 1 0, vCol (Scf.iv 0#32 1#32 t) 1 0, 0#32⟩) := by
    unfold middle
    by_cases h1 : k0_cond1 t = 1#1
    · simp only [dif_pos h1]
    · simp only [dif_neg h1]; rfl
  rw [e]
  simp only [wpT, wp_bind]
  iintro ⟨⟨#Hinv, #Hmw⟩, HA, Hr, Hh0, Hh1, HO⟩ Hk
  iapply (wp_take d L T q γ κ A hA sm0 v t hv 0 7 7 m rfl hm) $$ [Hh0 Hr]
  · isplitr; · iexact Hinv
    isplitl [Hh0] <;> iassumption
  iintro ⟨Hh0, Hr⟩
  ihave Hh0' := (ready_empty d L T q γ A sm0 0 t.val) $$ Hh0
  iapply (wp_refire0 d L T q γ κ A hA sm0 t) $$ [HA Hh0']
  · isplitr; · iexact Hinv
    isplitl [HA] <;> iassumption
  iintro ⟨HA, Hh0⟩
  iapply (wp_wait d L T q γ A hA O W sm1 1 t.val) $$ [Hh1 HO]
  · isplitr; · iexact Hmw
    isplitl [Hh1] <;> iassumption
  iintro ⟨Hh1, HO⟩
  rw [wp_pure]
  imodintro
  iapply Hk
  isplitl [HA]; · iexact HA
  isplitl [Hr]; · iexact Hr
  isplitl [Hh0]; · iexact Hh0
  isplitl [Hh1] <;> iassumption

/-- What holds before trip `t`. -/
def turn (sm0 sm1 : DmaSems sig S_) (t : ℕ) : sProp 𝕄 :=
  iprop(base (F := F) d L γ κ O ∗ (idxLoc d L ↦{fullShare} A) ∗ rowsDone d L T A (48 * t)
    ∗ half d L T q γ A hA sm0 0 t ∗ half d L T q γ A hA sm1 1 t ∗ dues d L O W)

set_option maxHeartbeats 4000000 in
/-- One trip. -/
theorem wp_whole (sm0 sm1 : DmaSems sig S_) (t : Fin k0_t1_loop.trips) (u : Unit) :
    turn d L T q γ κ A hA O W sm0 sm1 t.val
      ⊢ wpT d L (whole L tV idxV slabV rowsV sm0 sm1 lanes t u)
          (fun _ => turn d L T q γ κ A hA O W sm0 sm1 (t.val + 1)) := by
  have ht : t.val < 32 := lt_of_lt_of_eq t.isLt trips_eq
  unfold turn
  rw [half_flying d L T q γ A hA sm0 0 ht, half_flying d L T q γ A hA sm1 1 ht]
  unfold whole trip
  simp only [wpT, wp_bind]
  iintro ⟨⟨#Hinv, #Hmw⟩, HA, Hr, Hh0, Hh1, HO⟩
  iapply (wp_loadIdx16 d L A (k0_off18 t) (k0_off18_inb t) (16 * t.val) (k0_off18_eq t)) $$ HA
  iintro %v %hv HA
  iapply (wp_wait d L T q γ A hA O W sm0 0 t.val) $$ [Hh0 HO]
  · isplitr; · iexact Hmw
    isplitl [Hh0] <;> iassumption
  iintro ⟨Hh0, HO⟩
  iapply (wp_take7 d L T q γ κ A hA sm0 v t hv 0 Fin.castSucc 0 (48 * t.val) (48 * t.val + 21)
    (by decide) (by omega) rfl) $$ [Hh0 Hr]
  · isplitr; · iexact Hinv
    isplitl [Hh0] <;> iassumption
  iintro ⟨Hh0, Hr⟩
  iapply (wp_middle d L T q γ κ A hA O W sm0 sm1 v t hv (48 * t.val + 21) rfl) $$ [HA Hh0 Hr Hh1 HO]
  · isplitr
    · isplitr <;> iassumption
    isplitl [HA]; · iexact HA
    isplitl [Hr]; · iexact Hr
    isplitl [Hh0]; · iexact Hh0
    isplitl [Hh1] <;> iassumption
  iintro ⟨HA, Hr, Hh0, Hh1, HO⟩
  simp only [wp_bind]
  iapply (wp_ext3 d L T q γ κ A hA sm1 v t hv 1 0 (48 * t.val + 21 + 3) (48 * t.val + 27)
    (by show _ = 3 * (16 * t.val + 8); omega) rfl) $$ [Hh1 Hr]
  · isplitr; · iexact Hinv
    isplitl [Hh1] <;> iassumption
  iintro ⟨Hh1, Hr⟩
  iapply (wp_take7 d L T q γ κ A hA sm1 v t hv 1 Fin.succ 9 (48 * t.val + 27) (48 * t.val + 48)
    (by decide) (by omega) rfl) $$ [Hh1 Hr]
  · isplitr; · iexact Hinv
    isplitl [Hh1] <;> iassumption
  iintro ⟨Hh1, Hr⟩
  ihave Hh1' := (ready_empty d L T q γ A sm1 1 t.val) $$ Hh1
  rw [wp_pure]
  imodintro
  iapply (wp_refire1 d L T q γ κ A hA sm1 t) $$ [HA Hh1']
  · isplitr; · iexact Hinv
    isplitl [HA] <;> iassumption
  iintro ⟨HA, Hh1⟩
  isplitr
  · isplitr <;> iassumption
  isplitl [HA]; · iexact HA
  isplitl [Hr]; · iexact Hr
  isplitl [Hh0]; · iexact Hh0
  isplitl [Hh1] <;> iassumption

end Cert.KernelIdeal.Trip

end
-- ==== Proof.Ideal.Tile.lean ====
/-
One tile's work, from its indices in the array to its columns of the result.
-/
module

public import proofs.«01_k».proof.Proof.Ideal.Trip

@[expose] public section

noncomputable section

namespace Cert.KernelIdeal.Tile

open Cert.KernelIdeal Cert.KernelIdeal.Gen Cert.KernelIdeal.Body Cert.KernelIdeal.Words Cert.KernelIdeal.Views Cert.KernelIdeal.Steps
open Cert.KernelIdeal.Trip
open Cert.Proof
open Idealize.ShloMosaic
open Idealize.ShloMosaic.SparseCore (S V T)
open Idealize.ShloMosaic.SparseCore.Cfg (HIx)
open Idealize.ShloMosaic.Transfers
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The tile's part of the indices and of the result -/

section Parts

variable (L : grid0.Coords)

/-- The tile's first index. -/
abbrev first : ℕ := 1024 * (L 1).val + 512 * (L 0).val

theorem first_le : first L + 512 ≤ 16384 := by
  have h0 : (L 0).val < 2 := (L 0).isLt
  have h1 : (L 1).val < 16 := (L 1).isLt
  show 1024 * (L 1).val + 512 * (L 0).val + 512 ≤ 16384
  omega

/-- The tile's indices. -/
def own (I : S16384.Idx → BitVec 32) : S512.Idx → BitVec 32 :=
  fun x => I (ix1 (n0 := 16384) ⟨first L + (x 0).val, by
    have := first_le L; have : (x 0).val < 512 := (x 0).isLt; omega⟩)

/-- The columns of the table at the indices. -/
def gathered (T : S48x1000064.Idx → Elt F .f32) (I : S16384.Idx → BitVec 32) :
    S48x16384.Idx → Elt F .f32 :=
  fun x => T (ix2 (n0 := 48) (n1 := 1000064) (x 0)
    ⟨(I (ix1 (n0 := 16384) (x 1))).toNat % 1000064, Nat.mod_lt _ (by decide)⟩)

abbrev iSrc : Memref sig .scVector .hbm S512 .i32 :=
  iV.slice (Rect.unit (s := S16384) (k0_off1 L) S512.size (k0_off1_inb L)) (fun _ => rfl)

abbrev oDst : Memref sig .scVector .hbm S48x512 .f32 :=
  oV.slice (Rect.unit (s := S48x16384) (k0_off37 L) S48x512.size (k0_off37_inb L)) (fun _ => rfl)

/-- The elements of the tile's columns of the result. -/
abbrev cols : Finset S48x16384.Idx := (oDst L).view.set

theorem iSrc_emb (y : S512.Idx) : (iSrc L).view.emb y = ix1 (n0 := 16384) ⟨first L + (y 0).val, by
    have := first_le L; have : (y 0).val < 512 := (y 0).isLt; omega⟩ := by
  show (Rect.unit (s := S16384) (k0_off1 L) S512.size (k0_off1_inb L)).emb y = _
  funext a
  apply Fin.ext
  rw [ValueKit.rect_emb_unit_val]
  refine (congrArg (· + (y a).val) (congrFun (k0_off1_eq L) a)).trans ?_
  match a with
  | 0 => rfl

theorem oDst_emb (y : S48x512.Idx) : (oDst L).view.emb y = ix2 (n0 := 48) (n1 := 16384) (y 0)
    ⟨first L + (y 1).val, by
      have := first_le L; have : (y 1).val < 512 := (y 1).isLt; omega⟩ := by
  show (Rect.unit (s := S48x16384) (k0_off37 L) S48x512.size (k0_off37_inb L)).emb y = _
  funext a
  apply Fin.ext
  rw [ValueKit.rect_emb_unit_val]
  refine (congrArg (· + (y a).val) (congrFun (k0_off37_eq L) a)).trans ?_
  match a with
  | 0 => exact Nat.zero_add _
  | 1 => rfl

theorem mem_cols {x : S48x16384.Idx} : x ∈ cols L ↔ first L ≤ (x 1).val ∧ (x 1).val < first L + 512 := by
  constructor
  · intro h
    obtain ⟨y, rfl⟩ := View.exists_emb_of_mem_set _ h
    rw [oDst_emb]
    have : (y 1).val < 512 := (y 1).isLt
    show first L ≤ first L + (y 1).val ∧ first L + (y 1).val < first L + 512
    omega
  · intro h
    refine Finset.mem_map.mpr ⟨ix2 (n0 := 48) (n1 := 512) (x 0) ⟨(x 1).val - first L, by omega⟩,
      Finset.mem_univ _, ?_⟩
    refine (oDst_emb L _).trans ?_
    funext a
    match a with
    | 0 => rfl
    | 1 => exact Fin.ext (by show first L + ((x 1).val - first L) = (x 1).val; omega)

variable [FloatOps F]

/-- What the copy of the indices leaves in the tile's scratch. -/
theorem fetched (I : S16384.Idx → BitVec 32) (fi : S512.Idx → BitVec 32) :
    idxV.view.write (Elt F) fi ((iSrc L).view.read (Elt F) I) Finset.univ = own L I := by
  rw [View.write_whole_univ]
  funext y
  refine (View.read_apply _ _).trans ((cast_eq _ _).trans ?_)
  exact congrArg I (iSrc_emb L y)

/-- What the copy of the finished columns leaves in the result. -/
theorem stored (T : S48x1000064.Idx → Elt F .f32) (I : S16384.Idx → BitVec 32)
    (fo : S48x16384.Idx → Elt F .f32) (fr : S48x512.Idx → Elt F .f32)
    (hr : Done T (own L I) 1536 fr) (x : S48x16384.Idx) (hx : x ∈ cols L) :
    (oDst L).view.write (Elt F) fo (rowsV.view.read (Elt F) fr) Finset.univ x = gathered T I x := by
  obtain ⟨y, rfl⟩ := View.exists_emb_of_mem_set _ hx
  rw [View.write_emb_of_mem _ _ (Finset.mem_univ y)]
  have h0 : (y 0).val < 48 := (y 0).isLt
  have h1 : (y 1).val < 512 := (y 1).isLt
  have hd := hr y (by omega)
  have hw : rowsV.view.read (Elt F) fr = fr := View.read_whole _ _
  rw [hw]
  refine (cast_eq _ _).trans (hd.trans ?_)
  have he := oDst_emb L y
  unfold gathered
  have hi : ix (own L I) (y 1).val = I (ix1 (n0 := 16384) ((oDst L).view.emb y 1)) := by
    show I _ = I _
    congr 1
    funext a
    match a with
    | 0 =>
      apply Fin.ext
      have h := congrArg (fun z : S48x16384.Idx => (z 1).val) he
      refine Eq.trans ?_ h.symm
      show first L + (y 1).val % 512 = first L + (y 1).val
      omega
  congr 2
  · exact (congrFun he 0).symm
  · apply Fin.ext
    show (ix (own L I) (y 1).val).toNat % _ = _
    rw [hi]

end Parts

/-! ## The two halves of a family of sixteen -/

theorem halves {M : Type} [URA M] (Φ : Fin 16 → sProp M) :
    bigSep Finset.univ Φ = iprop((bigSep Finset.univ fun k : Fin 8 => Φ (slotOf 0 k))
      ∗ bigSep Finset.univ fun k : Fin 8 => Φ (slotOf 1 k)) := by
  rw [bigSep_univ_equiv (finSumFinEquiv (m := 8) (n := 8)) Φ, bigSep_univ_sum]
  congr 1

variable (d : Dev nD) (L : grid0.Coords) [FloatOps F]
variable (T : S48x1000064.Idx → Elt F .f32) (q : PosShare TreeShare) (γ : Fin 16 → ℕ) (κ : ℕ)

/-- A share of the slab is its share of every slot. -/
theorem slab_slots (p : PosShare TreeShare) (fs : S16x48x128.Idx → Elt F .f32) :
    (slabLoc d L ↦[Finset.univ]{p} fs : sProp 𝕄)
      = bigSep Finset.univ fun s : Fin 16 => slabLoc d L ↦[slotSet s]{p} fs := by
  have h := pointsTo_biUnion (ℓ := slabLoc d L) (q := p) (f := fs) (Ix := HIx 1) (Name := ℕ) (U := UU) (Lvl := ℕ)
    Finset.univ slotSet (fun s _ t _ h => slotSet_disjoint h)
  rw [slotSet_cover] at h
  exact h

/-- The slots at rest, from the slab's half share, the tokens and the table's share. -/
theorem idles_intro (fs : S16x48x128.Idx → Elt F .f32) :
    iprop((bigSep Finset.univ fun t => tok EC (γ t)) ∗ (slabLoc d L ↦[Finset.univ]{fullShare.right} fs)
        ∗ tblLoc d L ↦{q} T)
      ⊢ (bigSep Finset.univ fun s : Fin 16 => idle d L T q γ s : sProp 𝕄) := by
  rw [slab_slots, pointsTo_leaves (ℓ := tblLoc d L) Finset.univ T 4 q]
  refine (sep_mono_r (zip_family _ _ (fun s => iprop((slabLoc d L ↦[slotSet s]{fullShare.right} fs)
    ∗ tblLoc d L ↦{sh q s} T)) fun k => .rfl)).trans ?_
  refine zip_family _ _ _ fun s => ?_
  iintro ⟨Ht, Hs, Hb⟩
  isplitr [Hb]
  · iexists fs
    isplitl [Ht] <;> iassumption
  · iexact Hb

/-- The tokens, the slab's half share and the table's share, from the slots at rest. -/
theorem idles_elim (f₀ : S16x48x128.Idx → Elt F .f32) :
    (bigSep Finset.univ fun s : Fin 16 => idle d L T q γ s : sProp 𝕄)
      ⊢ iprop((bigSep Finset.univ fun t => tok EC (γ t))
        ∗ (∃ fs, slabLoc d L ↦[Finset.univ]{fullShare.right} fs) ∗ tblLoc d L ↦{q} T) := by
  refine (bigSep_mono (Ψ := fun s : Fin 16 => iprop(tok EC (γ s)
    ∗ ((∃ f, slabLoc d L ↦[slotSet s]{fullShare.right} f) ∗ tblLoc d L ↦{sh q s} T))) fun s _ => ?_).trans ?_
  · exact show iprop((∃ f, slot d L γ s f) ∗ tblLoc d L ↦{sh q s} T) ⊢ _ by
      iintro ⟨⟨%f, Ht, Hs⟩, Hb⟩
      isplitl [Ht]; · iexact Ht
      isplitr [Hb]
      · iexists f; iexact Hs
      · iexact Hb
  rw [bigSep_sep', bigSep_sep']
  refine sep_mono_r ?_
  have ht := pointsTo_leaves (Val := Elt F) (ℓ := tblLoc d L) (Ix := HIx 1) (Name := ℕ) (U := UU) (Lvl := ℕ) Finset.univ T 4 q
  rw [ht]
  refine sep_mono_l ?_
  have hn : Nonempty (S16x48x128.Idx → Elt F .f32) := ⟨f₀⟩
  refine (bigSep_exists_pi Finset.univ fun (s : Fin 16) (f : S16x48x128.Idx → Elt F .f32) =>
    slabLoc d L ↦[slotSet s]{fullShare.right} f).trans ?_
  iintro ⟨%fs, H⟩
  ihave H' := (pointsTo_biUnion_join (ℓ := slabLoc d L) (q := fullShare.right) (Val := Elt F) Finset.univ
    slotSet fs (fs 0) (fun s _ t _ h => slotSet_disjoint h)) $$ H
  icases H' with ⟨%g, -, Hg⟩
  rw [slotSet_cover]
  iexists g; iexact Hg

/-- The two half shares of the slab. -/
theorem slab_join :
    iprop((∃ f, slabLoc d L ↦[Finset.univ]{fullShare.left} f) ∗ (∃ f, slabLoc d L ↦[Finset.univ]{fullShare.right} f))
      ⊢ (iprop(∃ f, slabLoc d L ↦{fullShare} f) : sProp 𝕄) := by
  iintro ⟨⟨%f, Hl⟩, ⟨%g, Hr⟩⟩
  ihave H := (persistent_entails_right (pointsTo_agree (ℓ := slabLoc d L) (I := Finset.univ) (J := Finset.univ)
    (q₁ := fullShare.left) (q₂ := fullShare.right) (f := f) (g := g))) $$ [Hl Hr]
  · isplitl [Hl] <;> iassumption
  icases H with ⟨%h, Hl, Hr⟩
  obtain rfl : f = g := funext fun i => (h i (Finset.mem_inter.mpr ⟨Finset.mem_univ i, Finset.mem_univ i⟩)).1
  iexists f
  iapply (pointsTo_share (PosShare.mem_left_op_right fullShare)).2
  isplitl [Hl] <;> iassumption

/-! ## The tile's program -/

variable (I : S16384.Idx → BitVec 32) (hI : ∀ n, (I n).toNat < 1000000)
variable (O : CellTallies nD τ sig (HIx 1)) (W : Waits sig (HIx 1))

abbrev iLocT (d : Dev nD) (L : grid0.Coords) : Loc nD τ sig := iV.view.loc (th d L)
abbrev oLocT (d : Dev nD) (L : grid0.Coords) : Loc nD τ sig := oV.view.loc (th d L)

theorem idx_credit_pos : 0 < idxV.view.dmaCredit := by decide +kernel
theorem out_credit_pos : 0 < (oDst L).view.dmaCredit := by
  show 0 < rowsV.view.dmaCredit
  decide +kernel

include hI in
set_option maxHeartbeats 4000000 in
theorem wp_prog (qi : PosShare TreeShare) (s0 sm0 sm1 s1 : DmaSems sig S_)
    (fi : S512.Idx → BitVec 32) (fs : S16x48x128.Idx → Elt F .f32) (fr : S48x512.Idx → Elt F .f32)
    (fo : S48x16384.Idx → Elt F .f32) :
    iprop(MayWaits (th d L) (none : HIx 1) O ∗ (iLocT d L ↦{qi} I) ∗ (tblLoc d L ↦{q} T)
        ∗ (oLocT d L ↦[cols L]{fullShare} fo) ∗ (idxLoc d L ↦{fullShare} fi) ∗ (slabLoc d L ↦{fullShare} fs)
        ∗ (rowsLoc d L ↦{fullShare} fr) ∗ semVal (th d L, .dma s0.sem) 0 ∗ semVal (th d L, .dma sm0.sem) 0
        ∗ semVal (th d L, .dma sm1.sem) 0 ∗ semVal (th d L, .dma s1.sem) 0 ∗ owes (th d L) O W)
      ⊢ wpT d L (prog L iV tV oV idxV (Memref.isWhole_whole _) slabV rowsV (Memref.isWhole_whole _) sm0 sm1 s1 s0)
          fun _ => iprop((iLocT d L ↦{qi} I) ∗ (tblLoc d L ↦{q} T)
            ∗ (oLocT d L ↦[cols L]{fullShare} gathered T I) ∗ (∃ f, idxLoc d L ↦{fullShare} f)
            ∗ (∃ f, slabLoc d L ↦{fullShare} f) ∗ (∃ f, rowsLoc d L ↦{fullShare} f)
            ∗ semVal (th d L, .dma s0.sem) 0 ∗ semVal (th d L, .dma sm0.sem) 0
            ∗ semVal (th d L, .dma sm1.sem) 0 ∗ semVal (th d L, .dma s1.sem) 0 ∗ dues d L O W) := by
  have hA : ∀ n, (own L I n).toNat < 1000000 := fun n => hI _
  unfold prog
  simp only [wpT, wp_bind]
  iintro ⟨#Hmw, Hi, Ht, Ho, Hx, Hs, Hr, Hs0, Hs8, Hs9, Hs10, HO⟩
  -- the indices
  ihave Hi' := (pointsTo_split_subset (ℓ := iLocT d L) (q := qi) (f := I) (S := Finset.univ) (Finset.subset_univ (iSrc L).view.set)).1 $$ Hi
  icases Hi' with ⟨Hi, Hil⟩
  iapply (wp_dmaLocal EC 𝒱₀ (th d L) none (src := iSrc L) (dst := idxV) (Sd := Finset.univ) (fd := fi) (fs := I) (q := qi)
    (none : HIx 1) idxV.view.dmaCredit rfl idx_credit_pos (Finset.subset_univ _)) $$ [Hi Hx Hs0]
  · isplitl [Hi]; · iexact Hi
    isplitl [Hx] <;> iassumption
  iintro Hfl
  rw [wp_ret]; imodintro
  iapply (wp_waitLocalO EC 𝒱₀ (th d L) none (none : HIx 1) (rfl : idxV.view.dmaCredit = _)) $$ [Hfl HO]
  · isplitl [Hfl]; · iexact Hfl
    isplitl [HO]; · iexact HO
    iapply (MayWaits.elim (SemLoc.dma s0.sem)) $$ Hmw
  iintro ⟨⟨Hx, Hi⟩, Hs0, HO⟩
  rw [wp_ret]; imodintro
  ihave Hi := (pointsTo_split_subset (ℓ := iLocT d L) (q := qi) (f := I) (S := Finset.univ) (Finset.subset_univ (iSrc L).view.set)).2 $$ [Hi Hil]
  · isplitl [Hi] <;> iassumption
  ihave Hx := (Entails.of_eq (congrArg (fun z => (idxLoc d L ↦{fullShare} z : sProp 𝕄)) (fetched L I fi))) $$ Hx
  -- the slab
  imod (Slab.setup EC 16 (ℓ := slabLoc d L) (f := fs) (E := Set.univ)) $$ Hs with ⟨%γ, %κ, #Hinv, Htoks, Hs⟩
  ihave Hid := (idles_intro d L T q γ fs) $$ [Htoks Hs Ht]
  · isplitl [Htoks]; · iexact Htoks
    isplitl [Hs] <;> iassumption
  ihave Hid := (Entails.of_eq (halves (fun s => idle d L T q γ s))) $$ Hid
  icases Hid with ⟨Hid0, Hid1⟩
  -- the first copies
  iapply (wp_loadIdx16 d L (own L I) ![0] inb_S512_S16_0 0 rfl) $$ Hx
  iintro %v %hv Hx
  iapply (wp_fires d L T q γ κ (own L I) hA sm0 k0_chk1 k0_chk1.dec k0_off2_inb (fun g hg => chk1 hg) v 0 0
    (fun s => hv s)) $$ [Hs8 Hid0]
  · isplitr; · iexact Hinv
    unfold empty
    isplitl [Hs8] <;> iassumption
  iintro Hf0
  iapply (wp_fires d L T q γ κ (own L I) hA sm1 k0_chk1 k0_chk1.dec k0_off2_inb (fun g hg => chk1 hg) v 1 0
    (fun s => hv s)) $$ [Hs9 Hid1]
  · isplitr; · iexact Hinv
    unfold empty
    isplitl [Hs9] <;> iassumption
  iintro Hf1
  -- the loop
  iapply (Scf.wp_for frame (wpE (defs₀ (F := F)) 𝒱₀ (th d L) none) Set.univ _ _ _ k0_t1_ok ⟨⟩
    (whole L tV idxV slabV rowsV sm0 sm1 lanes)
    (fun t _ => turn d L T q γ κ (own L I) hA O (insert (SemLoc.dma s0.sem, none) W) sm0 sm1 t)
    (fun t u => wp_whole d L T q γ κ (own L I) hA O _ sm0 sm1 t u))
  isplitl [Hx Hr Hf0 Hf1 HO]
  · unfold turn
    rw [half_flying d L T q γ (own L I) hA sm0 0 (by decide), half_flying d L T q γ (own L I) hA sm1 1 (by decide)]
    isplitr
    · isplitr <;> iassumption
    isplitl [Hx]; · iexact Hx
    isplitl [Hr]
    · iexists fr
      isplitr
      · ipureintro
        intro x hx
        exact absurd hx (Nat.not_lt_zero _)
      · iexact Hr
    isplitl [Hf0]; · iexact Hf0
    isplitl [Hf1]; · iexact Hf1
    iexists _
    isplitr
    rotate_left
    · iexact HO
    · ipureintro
      exact fun p hp => Or.inl hp
  iintro %u H
  have e32 : Scf.trips k0_t1_loop.lb k0_t1_loop.ub k0_t1_loop.st = 32 := trips_eq
  rw [e32]
  unfold turn
  rw [half_empty d L T q γ (own L I) hA sm0 0 (by decide), half_empty d L T q γ (own L I) hA sm1 1 (by decide)]
  icases H with ⟨-, Hx, ⟨%gr, %hr, Hr⟩, He0, He1, ⟨%W', %hW', HO⟩⟩
  unfold empty
  icases He0 with ⟨Hs8, Hid0⟩
  icases He1 with ⟨Hs9, Hid1⟩
  -- the columns
  iapply (wp_dmaLocal EC 𝒱₀ (th d L) none (src := rowsV) (dst := oDst L) (Sd := cols L) (fd := fo) (fs := gr) (q := fullShare)
    (none : HIx 1) (oDst L).view.dmaCredit rfl (out_credit_pos L) subset_rfl) $$ [Hr Ho Hs10]
  · isplitl [Hr]
    · rw [show rowsV.view.set = Finset.univ from View.set_whole _]; iexact Hr
    isplitl [Ho] <;> iassumption
  iintro Hfl
  rw [wp_ret]; imodintro
  iapply (wp_waitLocalO EC 𝒱₀ (th d L) none (none : HIx 1) (rfl : (oDst L).view.dmaCredit = _)) $$ [Hfl HO]
  · isplitl [Hfl]; · iexact Hfl
    isplitl [HO]; · iexact HO
    iapply (MayWaits.elim (SemLoc.dma s1.sem)) $$ Hmw
  iintro ⟨⟨Ho, Hr⟩, Hs10, HO⟩
  rw [wp_ret]; imodintro
  -- everything back
  ihave Hid := (Entails.of_eq (halves (fun s => idle d L T q γ s)).symm) $$ [Hid0 Hid1]
  · isplitl [Hid0] <;> iassumption
  ihave Hid := (idles_elim d L T q γ fs) $$ Hid
  icases Hid with ⟨Htoks, Hs, Ht⟩
  imod (Slab.takedown EC (0 : Fin 16) (ℓ := slabLoc d L) (γ := γ) (κ := κ)) $$ [Htoks] with Hl
  · isplitr <;> iassumption
  ihave Hs := (slab_join d L) $$ [Hl Hs]
  · isplitl [Hl] <;> iassumption
  rw [wp_pure]; imodintro
  isplitl [Hi]; · iexact Hi
  isplitl [Ht]; · iexact Ht
  isplitl [Ho]
  · iapply (Entails.of_eq (pointsTo_congr (fun x hx => stored L T I fo gr hr x hx))) $$ Ho
  isplitl [Hx]; · iexists _; iexact Hx
  isplitl [Hs]; · iexact Hs
  isplitl [Hr]
  · iexists gr
    rw [show rowsV.view.set = Finset.univ from View.set_whole _]; iexact Hr
  isplitl [Hs0]; · iexact Hs0
  isplitl [Hs8]; · iexact Hs8
  isplitl [Hs9]; · iexact Hs9
  isplitl [Hs10]; · iexact Hs10
  iexists _
  isplitr
  rotate_left
  · iexact HO
  · ipureintro
    intro p hp
    rcases Finset.mem_insert.mp hp with rfl | hp
    · exact Or.inr rfl
    rcases hW' p hp with hp | hp
    · rcases Finset.mem_insert.mp hp with rfl | hp
      · exact Or.inr rfl
      · exact Or.inl hp
    · exact Or.inr hp

end Cert.KernelIdeal.Tile

end
-- ==== Proof.Ideal.Launch.lean ====
/-
The program's run: the launch of the tiles and the operations around it.
-/
module

public import proofs.«01_k».proof.Proof.Ideal.Tile

@[expose] public section

noncomputable section

namespace Cert.KernelIdeal.Launch

open Cert.KernelIdeal Cert.KernelIdeal.Gen Cert.KernelIdeal.Body Cert.KernelIdeal.Words Cert.KernelIdeal.Views Cert.KernelIdeal.Steps
open Cert.KernelIdeal.Tile
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Transfers
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operations of @main -/

abbrev iRef : DevRef τ sig := Proc.devRef .tc (main_arg0 : Ref sig .tc)
abbrev xRef : DevRef τ sig := Proc.devRef .tc (main_arg1 : Ref sig .tc)
abbrev aRef : DevRef τ sig := Proc.devRef .tc (main_v0 : Ref sig .tc)
abbrev bRef : DevRef τ sig := Proc.devRef .tc (main_v1 : Ref sig .tc)
abbrev zRef : DevRef τ sig := Proc.devRef .tc (main_cst : Ref sig .tc)
abbrev tRef : DevRef τ sig := Proc.devRef .tc (main_v2 : Ref sig .tc)
abbrev oRef : DevRef τ sig := Proc.devRef .tc (main_v3 : Ref sig .tc)
abbrev eRef : DevRef τ sig := Proc.devRef .tc (main_v4 : Ref sig .tc)
abbrev rRef : DevRef τ sig := Proc.devRef .tc (main_v5 : Ref sig .tc)

abbrev opA : HloOp τ sig (Elt F) := StableHlo.unary main_arg1 main_v0
  ((transpose S3x16x1000000 [2, 1, 0] · transposes_S1000000x16x3_S3x16x1000000_2_1_0) :
    (⟨S1000000x16x3, .f32⟩ : BufTy).Contents (Elt F) → (⟨S3x16x1000000, .f32⟩ : BufTy).Contents (Elt F))
abbrev opB : HloOp τ sig (Elt F) := StableHlo.reshape main_v0 main_v1 (rfl : (.f32 : EltTy) = .f32)
  shapeCasts_S3x16x1000000_S48x1000000
abbrev opZ : HloOp τ sig (Elt F) := StableHlo.nullary main_cst (constant S_ .f32 0x00000000#32)
abbrev opT : HloOp τ sig (Elt F) := StableHlo.binary main_v1 main_cst main_v2
  ((fun x v => pad S48x1000064 ![0, 0] ![0, 64] ![0, 0] x v pads_S48x1000000_S48x1000064_000_0640 h_S_) :
    (⟨S48x1000000, .f32⟩ : BufTy).Contents (Elt F) → (⟨S_, .f32⟩ : BufTy).Contents (Elt F)
      → (⟨S48x1000064, .f32⟩ : BufTy).Contents (Elt F))
abbrev opE : HloOp τ sig (Elt F) := StableHlo.reshape main_v3 main_v4 (rfl : (.f32 : EltTy) = .f32)
  shapeCasts_S48x16384_S3x16x16384
abbrev opR : HloOp τ sig (Elt F) := StableHlo.unary main_v4 main_v5
  ((transpose S16384x16x3 [2, 1, 0] · transposes_S3x16x16384_S16384x16x3_2_1_0) :
    (⟨S3x16x16384, .f32⟩ : BufTy).Contents (Elt F) → (⟨S16384x16x3, .f32⟩ : BufTy).Contents (Elt F))

/-- The arrays of @main that the kernel does not see. -/
abbrev aside : Finset (DevRef τ sig) := {xRef, aRef, bRef, zRef, eRef, rRef}
/-- All arrays of @main. -/
abbrev arrays : Finset (DevRef τ sig) := insert iRef (insert tRef (insert oRef aside))

/-- The arrays at the launch; before the call; after it; at the end. -/
def V0 (d : Dev nD) : Valuation τ sig (Elt F) := fun b => m (d, b)
def Vin (d : Dev nD) : Valuation τ sig (Elt F) :=
  (opT (F := F)).result ((opZ (F := F)).result ((opB (F := F)).result ((opA (F := F)).result (V0 m d))))

abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v5

/-- The indices, the table the kernel reads, and what the kernel leaves. -/
abbrev idxs (d : Dev nD) : S16384.Idx → BitVec 32 := m (iLoc d)
abbrev tbl (d : Dev nD) : S48x1000064.Idx → Elt F .f32 := Vin m d tRef
abbrev res (d : Dev nD) : S48x16384.Idx → Elt F .f32 := gathered (tbl m d) (idxs m d)

def Vout (d : Dev nD) : Valuation τ sig (Elt F) := Function.update (Vin m d) oRef (res m d)
def Vend (d : Dev nD) : Valuation τ sig (Elt F) := (opR (F := F)).result ((opE (F := F)).result (Vout m d))

/-- What the proof asks of the launch memory. -/
def PreOK : Prop := ∀ (d : Dev nD) (j : S16384.Idx), (idxs m d j).toNat < 1000000

/-! ## What the handshakes carry -/

theorem nCore_zero : (K (F := F)).nCore 0 = 2 := rfl

def coordsV (c : Fin (grid0.bound 0)) (s : Fin (grid0.bound 1)) : grid0.Coords :=
  fun | 0 => c | 1 => s | ⟨_ + 2, h⟩ => absurd h (Nat.not_lt.2 (Nat.le_add_left _ _))

/-- The share of a core, and of one of its tiles, of what every tile reads. -/
abbrev qc (c : Fin 2) : PosShare TreeShare := leaf 1 fullShare c
abbrev qt (c : Fin 2) (i : Fin 16) : PosShare TreeShare := leaf 4 (qc c) i

abbrev tilePts (d : Dev nD) (c : Fin 2) (i : Fin 16) (f : Buf (Elt F) (oLoc d)) : sProp 𝕄 :=
  iprop((iLoc d ↦{qt c i} idxs m d) ∗ (tLoc d ↦{qt c i} tbl m d) ∗ oLoc d ↦[cols (coordsV c i)]{fullShare} f)

abbrev corePts (d : Dev nD) (c : Fin 2) (f : Buf (Elt F) (oLoc d)) : sProp 𝕄 :=
  iprop((iLoc d ↦{qc c} idxs m d) ∗ (tLoc d ↦{qc c} tbl m d)
    ∗ bigSep Finset.univ fun i : Fin 16 => oLoc d ↦[cols (coordsV c i)]{fullShare} f)

abbrev old (d : Dev nD) : Buf (Elt F) (oLoc d) := Vin m d oRef

def P : (K (F := F)).Pay (nD := nD) (Val := Elt F) (Name := ℕ) (U := UU) where
  st := fun q d c => match q with | 0 => corePts m d (Fin.cast nCore_zero c) (old m d)
  dn := fun q d c => match q with | 0 => corePts m d (Fin.cast nCore_zero c) (res m d)
  go := fun q d c i => match q with
    | 0 => tilePts m d (Fin.cast nCore_zero c) (Fin.cast nSub_zero i) (old m d)
  td := fun q d c i => match q with
    | 0 => tilePts m d (Fin.cast nCore_zero c) (Fin.cast nSub_zero i) (res m d)
  x := fun _ _ => iprop(emp)

instance P_storable : (P (F := F) m).IsStorable where
  st q d c := match q with
    | 0 => (inferInstance : BI.Storable (upEmb : UEmb _ 𝕄) (corePts m d (Fin.cast nCore_zero c) (old m d)))
  dn q d c := match q with
    | 0 => (inferInstance : BI.Storable (upEmb : UEmb _ 𝕄) (corePts m d (Fin.cast nCore_zero c) (res m d)))
  go q d c i := match q with
    | 0 => (inferInstance : BI.Storable (upEmb : UEmb _ 𝕄)
      (tilePts m d (Fin.cast nCore_zero c) (Fin.cast nSub_zero i) (old m d)))
  td q d c i := match q with
    | 0 => (inferInstance : BI.Storable (upEmb : UEmb _ 𝕄)
      (tilePts m d (Fin.cast nCore_zero c) (Fin.cast nSub_zero i) (res m d)))

/-! ## The task -/

section Task

variable (d : Dev nD) (L : grid0.Coords)

abbrev cellA (d : Dev nD) (L : grid0.Coords) : GSem nD τ sig := (th d L, .dma cc0_scoped0.sem)
abbrev cellB (d : Dev nD) (L : grid0.Coords) : GSem nD τ sig := (th d L, .dma cc0_scratch3.sem)
abbrev cellC (d : Dev nD) (L : grid0.Coords) : GSem nD τ sig := (th d L, .dma cc0_scratch4.sem)
abbrev cellD (d : Dev nD) (L : grid0.Coords) : GSem nD τ sig := (th d L, .dma cc0_scratch5.sem)

/-- The tile's semaphore cells: the four the kernel waits on, and the rest. -/
theorem ownSems0_V :
    (ownSems0 (th d L) : sProp 𝕄)
      = iprop(semVal (cellA d L) 0 ∗ semVal (cellB d L) 0 ∗ semVal (cellC d L) 0 ∗ semVal (cellD d L) 0
          ∗ bigSep (((((ownCells (th d L)).erase (cellA d L)).erase (cellB d L)).erase (cellC d L)).erase (cellD d L))
              fun g => semVal g 0) := by
  unfold SparseCore.Cfg.ownSems0
  have hA : cellA d L ∈ ownCells (th d L) := (mem_ownCells (g := cellA d L)).mpr ⟨rfl, by
    show (SemLoc.dma cc0_scoped0.sem : SemLoc sig).isScoped .scVector = true; decide⟩
  have hB : cellB d L ∈ ownCells (th d L) := (mem_ownCells (g := cellB d L)).mpr ⟨rfl, by
    show (SemLoc.dma cc0_scratch3.sem : SemLoc sig).isScoped .scVector = true; decide⟩
  have hC : cellC d L ∈ ownCells (th d L) := (mem_ownCells (g := cellC d L)).mpr ⟨rfl, by
    show (SemLoc.dma cc0_scratch4.sem : SemLoc sig).isScoped .scVector = true; decide⟩
  have hD : cellD d L ∈ ownCells (th d L) := (mem_ownCells (g := cellD d L)).mpr ⟨rfl, by
    show (SemLoc.dma cc0_scratch5.sem : SemLoc sig).isScoped .scVector = true; decide⟩
  have ne : ∀ {a b : DmaSem sig}, a ≠ b → ((th d L, .dma a) : GSem nD τ sig) ≠ (th d L, .dma b) :=
    fun h e => h (by injection e with _ e; injection e)
  have hBA : cellB d L ≠ cellA d L := ne (by decide)
  have hCA : cellC d L ≠ cellA d L := ne (by decide)
  have hCB : cellC d L ≠ cellB d L := ne (by decide)
  have hDA : cellD d L ≠ cellA d L := ne (by decide)
  have hDB : cellD d L ≠ cellB d L := ne (by decide)
  have hDC : cellD d L ≠ cellC d L := ne (by decide)
  rw [SparseCore.bigSep_erase' hA,
    SparseCore.bigSep_erase' (Finset.mem_erase.mpr ⟨hBA, hB⟩),
    SparseCore.bigSep_erase' (Finset.mem_erase.mpr ⟨hCB, Finset.mem_erase.mpr ⟨hCA, hC⟩⟩),
    SparseCore.bigSep_erase' (Finset.mem_erase.mpr ⟨hDC, Finset.mem_erase.mpr ⟨hDB, Finset.mem_erase.mpr ⟨hDA, hD⟩⟩⟩)]

/-- The tile's buffers: the three scratch arrays, and the rest. -/
theorem ownBufs_V :
    (ownBufs (th d L) : sProp 𝕄)
      = iprop((∃ f, idxLoc d L ↦{fullShare} f) ∗ (∃ f, slabLoc d L ↦{fullShare} f) ∗ (∃ f, rowsLoc d L ↦{fullShare} f)
          ∗ bigSep ((((ownRefs (τ := τ) (.scVector (cV L) (jV L))).erase
              ((Proc.scVector (cV L) (jV L)).devRef cc0_scratch0)).erase
              ((Proc.scVector (cV L) (jV L)).devRef cc0_scratch1)).erase
              ((Proc.scVector (cV L) (jV L)).devRef cc0_scratch2))
              fun b => iprop(∃ f, ((d, b) : Loc nD τ sig) ↦{fullShare} f)) := by
  unfold SparseCore.Cfg.ownBufs
  have h0 := SparseCore.Cfg.mem_ownRefs_of_owner (p := Proc.scVector (cV L) (jV L))
    (b := (Proc.scVector (cV L) (jV L)).devRef cc0_scratch0) rfl
  have h1 := SparseCore.Cfg.mem_ownRefs_of_owner (p := Proc.scVector (cV L) (jV L))
    (b := (Proc.scVector (cV L) (jV L)).devRef cc0_scratch1) rfl
  have h2 := SparseCore.Cfg.mem_ownRefs_of_owner (p := Proc.scVector (cV L) (jV L))
    (b := (Proc.scVector (cV L) (jV L)).devRef cc0_scratch2) rfl
  have ne : ∀ {a b : Ref sig .scVector}, a ≠ b →
      (Proc.scVector (cV L) (jV L)).devRef a ≠ (Proc.scVector (cV L) (jV L)).devRef b :=
    fun h e => h (Proc.devRef_injective _ e)
  have n10 := ne (show (cc0_scratch1 : Ref sig .scVector) ≠ cc0_scratch0 by decide)
  have n20 := ne (show (cc0_scratch2 : Ref sig .scVector) ≠ cc0_scratch0 by decide)
  have n21 := ne (show (cc0_scratch2 : Ref sig .scVector) ≠ cc0_scratch1 by decide)
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩)]

/-- What a tile's task is given: a part of the indices and of the table, and its own columns of the output. -/
abbrev taskPts (q : PosShare TreeShare) (T : Buf (Elt F) (tblLoc d L)) (I : Buf (Elt F) (iLocT d L))
    (f : Buf (Elt F) (oLocT d L)) : sProp 𝕄 :=
  iprop((iLocT d L ↦{q} I) ∗ (tblLoc d L ↦{q} T) ∗ oLocT d L ↦[cols L]{fullShare} f)

/-- One tile's task, whatever the table `T` and the indices `I` hold. -/
theorem task_body (q : PosShare TreeShare) (T : Buf (Elt F) (tblLoc d L)) (I : Buf (Elt F) (iLocT d L))
    (f₀ : Buf (Elt F) (oLocT d L)) (hF : (K (F := F)).Facts) (hI : ∀ n, (I n).toNat < 1000000)
    (O : CellTallies nD τ sig (HIx 1)) (W : Waits sig (HIx 1)) (hO : ∀ g, O g none = 0) :
    iprop(levAts (K (F := F)).L (K (F := F)).lev ∗ emp
        ∗ taskPts d L q T I f₀
        ∗ scopedBufs (th d L) ∗ scopedSems0 (th d L) ∗ owes (th d L) O W)
      ⊢ wp frame (wpE (defs₀ (F := F)) 𝒱₀ (th d L) none) Set.univ
          (cc0_body L iV (Memref.isWhole_whole _) tV (Memref.isWhole_whole _) oV (Memref.isWhole_whole _)
            idxV (Memref.isWhole_whole _) slabV (Memref.isWhole_whole _) rowsV (Memref.isWhole_whole _)
            cc0_scratch3 cc0_scratch4 cc0_scratch5 cc0_scoped0)
          fun _ => iprop(taskPts d L q T I (gathered T I)
            ∗ scopedBufs (th d L) ∗ scopedSems0 (th d L)
            ∗ ∃ W', ⌜∀ p ∈ W', p ∈ W ∨ p.2 = none⌝ ∗ owes (th d L) O W') := by
  rw [prog_eq]
  rw [(K (F := F)).scopedBufs_V hF d (cV L) (jV L), SparseCore.Cfg.scopedSems0_V (Val := Elt F) d (cV L) (jV L),
    ownSems0_V, ownBufs_V]
  iintro ⟨#Hlv, -, ⟨Hi, Ht, Ho⟩, ⟨⟨%fi, Hx⟩, ⟨%fs, Hs⟩, ⟨%fr, Hr⟩, Hbufs⟩, ⟨HA, HB, HC, HD, Hsems⟩, HO⟩
  ihave Hmw := (show levAts (K (F := F)).L (K (F := F)).lev ⊢ Transfers.MayWaits (th d L) (none : HIx 1) O from
    (K (F := F)).mayWaits_none (thr := th d L) hO) $$ Hlv
  iapply (wp_wand frame (wpE (defs₀ (F := F)) 𝒱₀ (th d L) none) Set.univ) $$ [Hi Ht Ho Hx Hs Hr HA HB HC HD HO]
  · iapply (wp_prog d L T q I hI O W q cc0_scoped0 cc0_scratch3 cc0_scratch4 cc0_scratch5 fi fs fr f₀)
    isplitr; · iexact Hmw
    isplitl [Hi]; · iexact Hi
    isplitl [Ht]; · iexact Ht
    isplitl [Ho]; · iexact Ho
    isplitl [Hx]; · iexact Hx
    isplitl [Hs]; · iexact Hs
    isplitl [Hr]; · iexact Hr
    isplitl [HA]; · iexact HA
    isplitl [HB]; · iexact HB
    isplitl [HC]; · iexact HC
    isplitl [HD]; · iexact HD
    iexact HO
  iintro %u ⟨Hi, Ht, Ho, Hx, Hs, Hr, HA, HB, HC, HD, HO⟩
  isplitl [Hi Ht Ho]
  · isplitl [Hi]; · iexact Hi
    isplitl [Ht]; · iexact Ht
    iexact Ho
  isplitl [Hx Hs Hr Hbufs]
  · isplitl [Hx]; · iexact Hx
    isplitl [Hs]; · iexact Hs
    isplitl [Hr]; · iexact Hr
    iexact Hbufs
  isplitl [HA HB HC HD Hsems]
  · isplitl [HA]; · iexact HA
    isplitl [HB]; · iexact HB
    isplitl [HC]; · iexact HC
    isplitl [HD]; · iexact HD
    iexact Hsems
  iexact HO

theorem tile_body (c : Fin 2) (i : Fin 16) (hF : (K (F := F)).Facts) (hpre : PreOK m)
    (O : CellTallies nD τ sig (HIx 1)) (W : Waits sig (HIx 1)) (hO : ∀ g, O g none = 0) :
    iprop(levAts (K (F := F)).L (K (F := F)).lev ∗ emp ∗ tilePts m d c i (old m d)
        ∗ scopedBufs (th d (coordsV c i)) ∗ scopedSems0 (th d (coordsV c i)) ∗ owes (th d (coordsV c i)) O W)
      ⊢ wp frame (wpE (defs₀ (F := F)) 𝒱₀ (th d (coordsV c i)) none) Set.univ
          (cc0_body (coordsV c i) iV (Memref.isWhole_whole _) tV (Memref.isWhole_whole _) oV (Memref.isWhole_whole _)
            idxV (Memref.isWhole_whole _) slabV (Memref.isWhole_whole _) rowsV (Memref.isWhole_whole _)
            cc0_scratch3 cc0_scratch4 cc0_scratch5 cc0_scoped0)
          fun _ => iprop(tilePts m d c i (res m d)
            ∗ scopedBufs (th d (coordsV c i)) ∗ scopedSems0 (th d (coordsV c i))
            ∗ ∃ W', ⌜∀ p ∈ W', p ∈ W ∨ p.2 = none⌝ ∗ owes (th d (coordsV c i)) O W') :=
  task_body d (coordsV c i) (qt c i) (tbl m d) (idxs m d) (old m d) hF (hpre d) O W hO

theorem defs₀_vector (c : Fin τ.nSC) (s : Fin τ.nSub) :
    defs₀ (F := F) (.scVector c s) 0 ()
      = SparseCore.onTile hcore0 hsub0 (fun c s => cc0_body (coordsV c s)
          iV (Memref.isWhole_whole _) tV (Memref.isWhole_whole _) oV (Memref.isWhole_whole _)
          idxV (Memref.isWhole_whole _) slabV (Memref.isWhole_whole _) rowsV (Memref.isWhole_whole _)
          cc0_scratch3 cc0_scratch4 cc0_scratch5 cc0_scoped0) ⟨⟩ c s := rfl

theorem obl_post {thr : Thread nD τ} {A B C : sProp 𝕄} {O : CellTallies nD τ sig (HIx 1)} {W : Waits sig (HIx 1)}
    {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 :=
    ⟨c.isLt, i.isLt⟩
  change _ ⊢ wp _ _ _ (Pipeline.liftProg (defs₀ (F := F) (.scVector ((K (F := F)).core 0 c)
    ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d (Fin.cast nCore_zero c) (Fin.cast nSub_zero i) hF hpre O W hO).trans
    (wp_mono frame _ _ fun _ => obl_post)

end Task

/-! ## The columns split and join; the shares -/

theorem first_coords (c : Fin 2) (i : Fin 16) : first (coordsV c i) = 1024 * i.val + 512 * c.val := rfl

theorem cols_disjoint : ∀ p ∈ (Finset.univ : Finset (Fin 2 × Fin 16)), ∀ p' ∈ (Finset.univ : Finset (Fin 2 × Fin 16)),
    p ≠ p' → Disjoint (cols (coordsV p.1 p.2)) (cols (coordsV p'.1 p'.2)) := by
  rintro ⟨c, i⟩ - ⟨c', i'⟩ - h
  refine Finset.disjoint_left.mpr fun x hx hx' => h ?_
  have h1 := mem_cols _ |>.mp hx
  have h2 := mem_cols _ |>.mp hx'
  rw [first_coords] at h1 h2
  dsimp only at h1 h2
  have := c.isLt
  have := c'.isLt
  exact Prod.ext (Fin.ext (by show c.val = c'.val; omega)) (Fin.ext (by show i.val = i'.val; omega))

theorem cols_cover : (Finset.univ : Finset (Fin 2 × Fin 16)).biUnion (fun p => cols (coordsV p.1 p.2)) = Finset.univ := by
  ext x
  simp only [Finset.mem_biUnion, Finset.mem_univ, true_and, iff_true]
  have hx : (x 1).val < 16384 := (x 1).isLt
  refine ⟨(⟨(x 1).val % 1024 / 512, by omega⟩, ⟨(x 1).val / 1024, by omega⟩), (mem_cols _).mpr ?_⟩
  rw [first_coords]
  show 1024 * ((x 1).val / 1024) + 512 * ((x 1).val % 1024 / 512) ≤ (x 1).val
    ∧ (x 1).val < 1024 * ((x 1).val / 1024) + 512 * ((x 1).val % 1024 / 512) + 512
  omega

theorem out_tiles (d : Dev nD) (f : Buf (Elt F) (oLoc d)) :
    (oLoc d ↦{fullShare} f : sProp 𝕄) = bigSep Finset.univ fun c : Fin 2 => bigSep Finset.univ fun i : Fin 16 =>
      oLoc d ↦[cols (coordsV c i)]{fullShare} f := by
  have h := pointsTo_biUnion (ℓ := oLoc d) (q := fullShare) (f := f) (Ix := HIx 1) (Name := ℕ) (U := UU) (Lvl := ℕ)
    Finset.univ (fun p : Fin 2 × Fin 16 => cols (coordsV p.1 p.2)) cols_disjoint
  rw [cols_cover] at h
  refine h.trans (BI.bigSep_univ_prod _)

theorem cores_eq (d : Dev nD) (f : Buf (Elt F) (oLoc d)) :
    (bigSep Finset.univ fun c : Fin 2 => corePts m d c f : sProp 𝕄)
      = iprop((iLoc d ↦{fullShare} idxs m d) ∗ (tLoc d ↦{fullShare} tbl m d) ∗ oLoc d ↦{fullShare} f) := by
  rw [bigSep_sep', bigSep_sep', out_tiles d f]
  have hi := pointsTo_leaves (Val := Elt F) (ℓ := iLoc d) (Ix := HIx 1) (Name := ℕ) (U := UU) (Lvl := ℕ) Finset.univ
    (idxs m d) 1 fullShare
  have ht := pointsTo_leaves (Val := Elt F) (ℓ := tLoc d) (Ix := HIx 1) (Name := ℕ) (U := UU) (Lvl := ℕ) Finset.univ
    (tbl m d) 1 fullShare
  rw [hi, ht]
  rfl

theorem st0_eq (d : Dev nD) : (bigSep Finset.univ fun c : Fin ((K (F := F)).nCore 0) => (P m).st 0 d c)
    = iprop((iLoc d ↦{fullShare} idxs m d) ∗ (tLoc d ↦{fullShare} tbl m d) ∗ oLoc d ↦{fullShare} old m d) :=
  cores_eq m d _
theorem dn0_eq (d : Dev nD) : (bigSep Finset.univ fun c : Fin ((K (F := F)).nCore 0) => (P m).dn 0 d c)
    = iprop((iLoc d ↦{fullShare} idxs m d) ∗ (tLoc d ↦{fullShare} tbl m d) ∗ oLoc d ↦{fullShare} res m d) :=
  cores_eq m d _

theorem tiles_eq (d : Dev nD) (c : Fin 2) (f : Buf (Elt F) (oLoc d)) :
    (bigSep Finset.univ fun i : Fin 16 => tilePts m d c i f : sProp 𝕄) = corePts m d c f := by
  rw [bigSep_sep', bigSep_sep']
  have hi := pointsTo_leaves (Val := Elt F) (ℓ := iLoc d) (Ix := HIx 1) (Name := ℕ) (U := UU) (Lvl := ℕ) Finset.univ
    (idxs m d) 4 (qc c)
  have ht := pointsTo_leaves (Val := Elt F) (ℓ := tLoc d) (Ix := HIx 1) (Name := ℕ) (U := UU) (Lvl := ℕ) Finset.univ
    (tbl m d) 4 (qc c)
  unfold corePts
  rw [hi, ht]
  rfl

theorem vecSplit : (K (F := F)).VecSplit' (P m) 0 := by
  intro d c
  show corePts m d (Fin.cast nCore_zero c) (old m d) ⊢ |={Set.univ}=> iprop(
      (bigSep Finset.univ fun i : Fin 16 => tilePts m d (Fin.cast nCore_zero c) i (old m d))
      ∗ ((bigSep Finset.univ fun i : Fin 16 => tilePts m d (Fin.cast nCore_zero c) i (res m d))
          -∗ corePts m d (Fin.cast nCore_zero c) (res m d)))
  rw [tiles_eq, tiles_eq]
  iintro H
  imodintro
  isplitl [H]; · iexact H
  iintro H; iexact H

/-! ## The launch's own ghost state -/

def u₀ : UU := (initOf (K (F := F)).hsCells (K (F := F)).hsToks, 1)

theorem no_ghost {ι : Type} (s : Finset ι) : (bigSep s fun _ => iprop(emp) : sProp 𝕄) = iprop(emp) :=
  bigSep_emp_const s

theorem hu₀ : (ownU (u₀ (F := F)) : sProp 𝕄)
    ⊢ |={Set.univ}=> iprop(BI.own (EH (initOf (K (F := F)).hsCells (K (F := F)).hsToks))
        ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [no_ghost]; iempintro
  rw [show (bigSep Finset.univ fun thr : Thread nD τ => bigSep Finset.univ fun q : Fin 1 => (P (F := F) m).x q thr)
    = bigSep Finset.univ fun _ => iprop(emp) from
      bigSep_congr fun _ _ => bigSep_univ_of_subsingleton (0 : Fin 1), no_ghost]
  iempintro

/-! ## @main -/

theorem held_arrays (d : Dev nD) (G : Valuation τ sig (Elt F)) :
    (held (T d) arrays G : sProp 𝕄)
      = iprop((iLoc d ↦{fullShare} G iRef) ∗ (tLoc d ↦{fullShare} G tRef) ∗ (oLoc d ↦{fullShare} G oRef)
          ∗ held (T d) aside G) := by
  unfold held arrays
  rw [SparseCore.bigSep_insert' (by decide), SparseCore.bigSep_insert' (by decide), SparseCore.bigSep_insert' (by decide)]

theorem held_end (d : Dev nD) (G : Valuation τ sig (Elt F)) :
    (held (T d) arrays G : sProp 𝕄)
      ⊢ iprop((iLoc d ↦{fullShare} G iRef) ∗ (xLoc d ↦{fullShare} G xRef) ∗ (rLoc d ↦{fullShare} G rRef)) := by
  unfold held
  rw [show (arrays : Finset (DevRef τ sig)) = insert iRef (insert xRef (insert rRef {tRef, oRef, aRef, bRef, zRef, eRef})) by decide,
    SparseCore.bigSep_insert' (by decide), SparseCore.bigSep_insert' (by decide), SparseCore.bigSep_insert' (by decide)]
  iintro ⟨Hi, Hx, Hr, -⟩
  isplitl [Hi]; · iexact Hi
  isplitl [Hx] <;> iassumption

theorem unscoped_held (d : Dev nD) :
    (unscopedBufs d (fun b => m ((SparseCore.T d).loc b)) : sProp 𝕄) = held (T d) arrays (V0 m d) := by
  unfold unscopedBufs held
  rw [show (Finset.univ.filter fun b : Ref sig .tc => ¬ b.isScoped)
      = {main_arg0, main_v2, main_v3, main_arg1, main_v0, main_v1, main_cst, main_v4, main_v5} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  unfold arrays aside
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem Vin_i (d : Dev nD) : Vin m d iRef = m (iLoc d) := by
  unfold Vin
  rw [(opT (F := F)).result_of_not_mem _ (show iRef ∉ ({tRef} : Finset (DevRef τ sig)) by decide),
    (opZ (F := F)).result_of_not_mem _ (show iRef ∉ ({zRef} : Finset (DevRef τ sig)) by decide),
    (opB (F := F)).result_of_not_mem _ (show iRef ∉ ({bRef} : Finset (DevRef τ sig)) by decide),
    (opA (F := F)).result_of_not_mem _ (show iRef ∉ ({aRef} : Finset (DevRef τ sig)) by decide)]
  rfl

theorem Vin_x (d : Dev nD) : Vin m d xRef = m (xLoc d) := by
  unfold Vin
  rw [(opT (F := F)).result_of_not_mem _ (show xRef ∉ ({tRef} : Finset (DevRef τ sig)) by decide),
    (opZ (F := F)).result_of_not_mem _ (show xRef ∉ ({zRef} : Finset (DevRef τ sig)) by decide),
    (opB (F := F)).result_of_not_mem _ (show xRef ∉ ({bRef} : Finset (DevRef τ sig)) by decide),
    (opA (F := F)).result_of_not_mem _ (show xRef ∉ ({aRef} : Finset (DevRef τ sig)) by decide)]
  rfl

theorem Vout_ne (d : Dev nD) {b : DevRef τ sig} (h : b ≠ oRef) : Vout m d b = Vin m d b :=
  Function.update_of_ne h _ _

theorem Vend_i (d : Dev nD) : Vend m d iRef = m (iLoc d) := by
  unfold Vend
  rw [(opR (F := F)).result_of_not_mem _ (show iRef ∉ ({rRef} : Finset (DevRef τ sig)) by decide),
    (opE (F := F)).result_of_not_mem _ (show iRef ∉ ({eRef} : Finset (DevRef τ sig)) by decide),
    Vout_ne m d (by decide), Vin_i]

theorem Vend_x (d : Dev nD) : Vend m d xRef = m (xLoc d) := by
  unfold Vend
  rw [(opR (F := F)).result_of_not_mem _ (show xRef ∉ ({rRef} : Finset (DevRef τ sig)) by decide),
    (opE (F := F)).result_of_not_mem _ (show xRef ∉ ({eRef} : Finset (DevRef τ sig)) by decide),
    Vout_ne m d (by decide), Vin_x]

/-- The arrays before the call, as the call takes them. -/
theorem held_in (d : Dev nD) :
    (held (T d) arrays (Vin m d) : sProp 𝕄)
      = iprop((iLoc d ↦{fullShare} idxs m d) ∗ (tLoc d ↦{fullShare} tbl m d) ∗ (oLoc d ↦{fullShare} old m d)
          ∗ held (T d) aside (Vin m d)) := by
  rw [held_arrays, Vin_i]

/-- The arrays after the call, from what it hands back. -/
theorem held_out (d : Dev nD) :
    (held (T d) arrays (Vout m d) : sProp 𝕄)
      = iprop((iLoc d ↦{fullShare} idxs m d) ∗ (tLoc d ↦{fullShare} tbl m d) ∗ (oLoc d ↦{fullShare} res m d)
          ∗ held (T d) aside (Vin m d)) := by
  rw [held_arrays, Vout_ne m d (show iRef ≠ oRef by decide), Vout_ne m d (show tRef ≠ oRef by decide), Vin_i,
    show Vout m d oRef = res m d from Function.update_self _ _ _]
  have ha : (held (T d) aside (Vout m d) : sProp 𝕄) = held (T d) aside (Vin m d) := by
    unfold held
    refine bigSep_congr fun b hb => ?_
    rw [Vout_ne m d (fun e => absurd (e ▸ hb) (by decide))]
  rw [ha]

theorem hA : (opA (F := F)).bufs ⊆ arrays := show ({xRef, aRef} : Finset (DevRef τ sig)) ⊆ arrays by decide
theorem hB : (opB (F := F)).bufs ⊆ arrays := show ({aRef, bRef} : Finset (DevRef τ sig)) ⊆ arrays by decide
theorem hZ : (opZ (F := F)).bufs ⊆ arrays := show ({zRef} : Finset (DevRef τ sig)) ⊆ arrays by decide
theorem hT : (opT (F := F)).bufs ⊆ arrays := show ({bRef, zRef, tRef} : Finset (DevRef τ sig)) ⊆ arrays by decide
theorem hE : (opE (F := F)).bufs ⊆ arrays := show ({oRef, eRef} : Finset (DevRef τ sig)) ⊆ arrays by decide
theorem hR : (opR (F := F)).bufs ⊆ arrays := show ({eRef, rRef} : Finset (DevRef τ sig)) ⊆ arrays by decide

/-- What @main leaves: the arguments as they were, and the result. -/
abbrev FIN (d : Dev nD) : sProp 𝕄 :=
  iprop((iLoc d ↦{fullShare} m (iLoc d)) ∗ (xLoc d ↦{fullShare} m (xLoc d)) ∗ rLoc d ↦{fullShare} Vend m d rRef)

set_option maxHeartbeats 2000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := arrays) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := arrays) hB
    (V := (opA (F := F)).result (V0 m d))) $$ [Hb Hheld]
  · isplitl [Hb] <;> iassumption
  iintro ⟨Hb, Hheld⟩
  rw [wp_ret]; imodintro
  iapply (wp_hlo_within 𝒱 (SparseCore.T d) none Set.univ (op := opZ) (S := arrays) hZ
    (V := (opB (F := F)).result ((opA (F := F)).result (V0 m d)))) $$ [Hb Hheld]
  · isplitl [Hb] <;> iassumption
  iintro ⟨Hb, Hheld⟩
  rw [wp_ret]; imodintro
  iapply (wp_hlo_within 𝒱 (SparseCore.T d) none Set.univ (op := opT) (S := arrays) hT
    (V := (opZ (F := F)).result ((opB (F := F)).result ((opA (F := F)).result (V0 m d))))) $$ [Hb Hheld]
  · isplitl [Hb] <;> iassumption
  iintro ⟨Hb, Hheld⟩
  rw [wp_ret]; imodintro
  ihave Hv := (Entails.of_eq (show (held (SparseCore.T d) arrays ((opT (F := F)).result ((opZ (F := F)).result
      ((opB (F := F)).result ((opA (F := F)).result (V0 m d))))) : sProp 𝕄) = held (SparseCore.T d) arrays (Vin m d) from rfl)) $$ Hheld
  ihave Hh := (Entails.of_eq (held_in (F := F) m d)) $$ Hv
  icases Hh with ⟨Hi, Ht, Ho, Hrest⟩
  iapply ((K (F := F)).wp_run (D (F := F)) 𝒱 (EH := EH) (P := P m) κ d 0) $$ [Hst Hi Ht Ho Hb Hrest Hts]
  isplitr; · iexact Hctx
  isplitl [Hst]; · iexact Hst
  isplitl [Hi Ht Ho]
  · rw [st0_eq]
    isplitl [Hi]; · iexact Hi
    isplitl [Ht] <;> iassumption
  iintro ⟨Hst, Hdn⟩
  ihave Hdn' := (Entails.of_eq (dn0_eq m d)) $$ Hdn
  icases Hdn' with ⟨Hi, Ht, Ho⟩
  ihave Hheld := (Entails.of_eq (held_out (F := F) m d).symm) $$ [Hi Ht Ho Hrest]
  · isplitl [Hi]; · iexact Hi
    isplitl [Ht]; · iexact Ht
    isplitl [Ho] <;> iassumption
  iapply (wp_hlo_within 𝒱 (SparseCore.T d) none Set.univ (op := opE) (S := arrays) hE (V := Vout m d)) $$ [Hb Hheld]
  · isplitl [Hb] <;> iassumption
  iintro ⟨Hb, Hheld⟩
  rw [wp_ret]; imodintro
  iapply (wp_hlo_within 𝒱 (SparseCore.T d) none Set.univ (op := opR) (S := arrays) hR
    (V := (opE (F := F)).result (Vout m d))) $$ [Hb Hheld]
  · isplitl [Hb] <;> iassumption
  iintro ⟨Hb, Hheld⟩
  ihave Hv := (Entails.of_eq (show (held (SparseCore.T d) arrays ((opR (F := F)).result ((opE (F := F)).result (Vout m d))) : sProp 𝕄)
    = held (SparseCore.T d) arrays (Vend m d) from rfl)) $$ Hheld
  ihave Hh := (held_end (F := F) d (Vend m d)) $$ Hv
  rw [Vend_i, Vend_x]
  rw [wp_ret]; imodintro; imodintro
  isplitl [Hst]; · iexact Hst
  isplitr [Hb Hts]
  · iexact Hh
  isplitl [Hb] <;> iassumption

/-- What the claims read of a device's final state. -/
def fq (d : Dev nD) (s' : Phys nD τ sig (Elt F)) : Prop :=
  s'.mem.mem (rLoc d) = Vend m d rRef ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare)
    (f := m (iLoc d)))) $$ [HSI Hi]
  · isplitl [HSI] <;> iassumption
  icases H with ⟨%hi, HSI, -⟩
  ihave H := (persistent_entails_right (SI_pointsTo_agree (st := s') (ℓ := xLoc d) (I := Finset.univ) (q := fullShare)
    (f := m (xLoc d)))) $$ [HSI Hx]
  · isplitl [HSI] <;> iassumption
  icases H with ⟨%hx, HSI, -⟩
  ihave H := (SI_pointsTo_agree (st := s') (ℓ := rLoc d) (I := Finset.univ) (q := fullShare) (f := Vend m d rRef)) $$ [HSI Hr]
  · isplitl [HSI] <;> iassumption
  icases H with %hr
  ipureintro
  exact ⟨funext fun i => hr i (Finset.mem_univ i), funext fun i => hi i (Finset.mem_univ i),
    funext fun i => hx i (Finset.mem_univ i)⟩

/-! ## The run -/

def QC : PUnit × MemSt nD τ sig (Elt F) → Prop := fun r =>
  (∀ c : Dev nD, r.2.mem (rLoc c) = Vend m c rRef ∧ r.2.mem (iLoc c) = m (iLoc c) ∧ r.2.mem (xLoc c) = m (xLoc c))
    ∧ r.2.sem = fun _ => 0

/-- The program runs, leaves its arguments, and its result is `Vend` at the last array. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Cert.KernelIdeal.Launch

end
-- ==== Proof.Ideal.Finish.lean ====
/-
What the program leaves: the rows of its table that its indices name.
-/
module

public import proofs.«01_k».proof.Proof.Ideal.Launch
public import proofs.«01_k».proof.Proof.Arrays
public import proofs.«01_k».proof.Proof.Gen.Pre_in_range

@[expose] public section

noncomputable section

namespace Cert.KernelIdeal.Finish

open Cert.KernelIdeal Cert.KernelIdeal.Gen Cert.KernelIdeal.Launch Cert.KernelIdeal.Tile Cert.Arrays
open Idealize.ShloMosaic Idealize.ShloMosaic.StableHlo Idealize.ShloMosaic.ValueIdx Idealize.SL.Sem

variable {F : FTy → Type} [FloatOps F]
variable (m : (ℓ : Loc nD τ sig) → Buf (Elt F) ℓ) (ρ : Dev nD → PrngReg)

/-- The table of 48 rows that @main makes of its argument. -/
def wide (X : STab.Idx → Elt F .f32) : S48x1000064.Idx → Elt F .f32 :=
  pad S48x1000064 ![0, 0] ![0, 64] ![0, 0] (shapeCast S48x1000000
    (transpose S3x16x1000000 [2, 1, 0] X transposes_S1000000x16x3_S3x16x1000000_2_1_0)
    shapeCasts_S3x16x1000000_S48x1000000) (constant S_ .f32 0x00000000#32) pads_S48x1000000_S48x1000064_000_0640 h_S_

/-- The table the kernel reads is `wide` of the argument. -/
theorem tbl_eq (d : Dev nD) : tbl m d = wide (m (xLoc d)) := by
  have ha : (opA (F := F)).result (V0 m d) aRef
      = transpose S3x16x1000000 [2, 1, 0] (m (xLoc d)) transposes_S1000000x16x3_S3x16x1000000_2_1_0 :=
    unary_result _ _ _ _ _ _
  have hb : (opB (F := F)).result ((opA (F := F)).result (V0 m d)) bRef
      = shapeCast S48x1000000 ((opA (F := F)).result (V0 m d) aRef) shapeCasts_S3x16x1000000_S48x1000000 :=
    reshape_result _ _ _ _ _ _ _
  have hb' : (opZ (F := F)).result ((opB (F := F)).result ((opA (F := F)).result (V0 m d))) bRef
      = (opB (F := F)).result ((opA (F := F)).result (V0 m d)) bRef :=
    (opZ (F := F)).result_of_not_mem _ (show bRef ∉ ({zRef} : Finset (DevRef τ sig)) by decide)
  have hz : (opZ (F := F)).result ((opB (F := F)).result ((opA (F := F)).result (V0 m d))) zRef
      = constant S_ .f32 0x00000000#32 := nullary_result _ _ _ _
  show Vin m d tRef = _
  unfold Vin
  refine (binary_result _ _ _ _ _ _ _ _).trans ?_
  unfold wide
  rw [← ha, ← hb, ← hb', ← hz]

/-- The program's result is the picked rows. -/
theorem Vend_r (d : Dev nD) (hpre : PreOK m) : Vend m d rRef = picked (idxs m d) (m (xLoc d)) := by
  have ho : Vout m d oRef = gathered (wide (m (xLoc d))) (idxs m d) := by
    rw [← tbl_eq]; exact Function.update_self _ _ _
  have he : (opE (F := F)).result (Vout m d) eRef
      = shapeCast S3x16x16384 (Vout m d oRef) shapeCasts_S48x16384_S3x16x16384 := reshape_result _ _ _ _ _ _ _
  have hr : Vend m d rRef = transpose S16384x16x3 [2, 1, 0] ((opE (F := F)).result (Vout m d) eRef)
      transposes_S3x16x16384_S16384x16x3_2_1_0 := unary_result _ _ _ _ _ _
  rw [hr, he, ho]
  exact picked_of_columns (idxs m d) (m (xLoc d)) (constant S_ .f32 0x00000000#32) (hpre d)
    transposes_S1000000x16x3_S3x16x1000000_2_1_0 shapeCasts_S3x16x1000000_S48x1000000
    pads_S48x1000000_S48x1000064_000_0640 h_S_ shapeCasts_S48x16384_S3x16x16384
    transposes_S3x16x16384_S16384x16x3_2_1_0 (gathered (wide (m (xLoc d))) (idxs m d)) fun _ _ => rfl

/-- The precondition's function being true means that every index is in range. -/
theorem ok_of_pre (h : ∀ c : Dev nD, (Cert.Pre_in_range.fn (F := F) (m ((c.tc : Thread nD τ).loc main_arg0))
    (m ((c.tc : Thread nD τ).loc main_arg1))) = (fun _ => 1#1)) : PreOK m := by
  intro d n
  have hd := h d
  unfold Cert.Pre_in_range.fn at hd
  exact in_range (idxs m d) _ _ _ hd n

/-- The program runs; its result is the picked rows, its arguments are as they were and its counters at zero. -/
theorem run_picked [∀ e, Nonempty (Elt F e)] (hpre : PreOK m) :
    θ_run (Cert.KernelIdeal.defs (F := F)) (Cert.KernelIdeal.threads (F := F)) ⟨m, fun _ => 0, ρ⟩ fun r =>
      (∀ c : Dev nD, r.2.mem (rLoc c) = picked (idxs m c) (m (xLoc c)) ∧ r.2.mem (iLoc c) = m (iLoc c)
        ∧ r.2.mem (xLoc c) = m (xLoc c)) ∧ r.2.sem = fun _ => 0 :=
  (θ_run Cert.KernelIdeal.defs _ _).mono (fun _ h => ⟨fun c => ⟨(h.1 c).1.trans (Vend_r m c hpre), (h.1 c).2⟩, h.2⟩)
    (run_main m ρ hpre)

end Cert.KernelIdeal.Finish

end
-- ==== Proof.lean ====
/-
The claims about the kernel and its reference: each runs and leaves its arguments, and both give the rows of the table
that the indices name.
-/
module

public import proofs.«01_k».proof.Defs
public import proofs.«01_k».proof.Proof.Finish
public import proofs.«01_k».proof.Proof.Ideal.Finish
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Arrays

/-- The kernel at bit patterns runs, leaves its arguments and its counters. -/
theorem frame_kernel : Cert.quiescent_Kernel := fun m ρ hpre =>
  (θ_run Cert.Kernel.defs _ _).mono (fun _ h => ⟨fun c => (h.1 c).2, h.2⟩)
    (Cert.Kernel.Finish.run_picked (F := Bits) m ρ (Cert.Kernel.Finish.ok_of_pre m hpre))

/-- The same of the kernel at ideal numbers. -/
theorem frame_ideal : Cert.quiescent_KernelIdeal := fun m ρ hpre =>
  (θ_run Cert.KernelIdeal.defs _ _).mono (fun _ h => ⟨fun c => (h.1 c).2, h.2⟩)
    (Cert.KernelIdeal.Finish.run_picked (F := Ideal) m ρ (Cert.KernelIdeal.Finish.ok_of_pre m hpre))

/-- The same of the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- In particular where every index is in the table. -/
theorem frame_reference_in_range : Cert.quiescent_ReferenceIdeal_pre_in_range := fun m ρ _ =>
  frame_reference m ρ trivial

/-- Both programs give the rows of the table that the indices name. -/
theorem algebraic : Cert.algebraic_KernelIdeal_ReferenceIdeal := by
  intro m ρ m' ρ' hpre hagree
  have hok := Cert.KernelIdeal.Finish.ok_of_pre m hpre
  refine ⟨fun c => picked (Cert.KernelIdeal.Launch.idxs m c) (m (Cert.KernelIdeal.Launch.xLoc c)),
    (θ_run Cert.KernelIdeal.defs _ _).mono (fun _ h => h.1) (Cert.KernelIdeal.Finish.run_picked (F := Ideal) m ρ hok),
    (θ_run Cert.ReferenceIdeal.defs _ _).mono (fun _ h c => ⟨(h c).1.trans ?_, (h c).2⟩)
      (Cert.ReferenceIdeal.Value.run (F := Ideal) m' ρ')⟩
  rw [(hagree c).1, (hagree c).2]
  exact picked_of_take (Cert.KernelIdeal.Launch.idxs m c) (m (Cert.KernelIdeal.Launch.xLoc c)) _ (hok c)
    Cert.ReferenceIdeal.Facts₀.bcast_S_S16384 Cert.ReferenceIdeal.Facts₀.bcast_S16384_S16384x1_0
    Cert.ReferenceIdeal.Facts₀.bcast_S_S16384x1 Cert.ReferenceIdeal.Facts₀.bcast_S1_S1x1_1
    Cert.ReferenceIdeal.Facts₀.bcast_S1x1_S16384x1_0_1 Cert.ReferenceIdeal.Facts₀.bcast_S16384_S16384x16x3_0
    Cert.ReferenceIdeal.Facts₀.reducesTo_S16384x1_S16384_d1 Cert.ReferenceIdeal.Facts₀.h_S_
    Cert.ReferenceIdeal.Facts₀.gather_S1000000x16x3_S16384x1_S16384x16x3_12_0_n_n_0_1_1163_wf _ rfl

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
